-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S768x768 : Shape := ⟨2, ![768, 768]⟩
abbrev S768 : Shape := ⟨1, ![768]⟩
abbrev S768x384 : Shape := ⟨2, ![768, 384]⟩
abbrev S384 : Shape := ⟨1, ![384]⟩
abbrev S384x1 : Shape := ⟨2, ![384, 1]⟩
abbrev S1 : Shape := ⟨1, ![1]⟩
abbrev S768x1920 : Shape := ⟨2, ![768, 1920]⟩
abbrev S1920 : Shape := ⟨1, ![1920]⟩
abbrev S1x1920 : Shape := ⟨2, ![1, 1920]⟩
abbrev S1x384 : Shape := ⟨2, ![1, 384]⟩
abbrev S1x1 : Shape := ⟨2, ![1, 1]⟩
abbrev S4x8192x1 : Shape := ⟨3, ![4, 8192, 1]⟩
abbrev S1x4096x768 : Shape := ⟨3, ![1, 4096, 768]⟩
abbrev S1x4096x1 : Shape := ⟨3, ![1, 4096, 1]⟩
abbrev S1x768 : Shape := ⟨2, ![1, 768]⟩
abbrev S4096x768 : Shape := ⟨2, ![4096, 768]⟩
abbrev S512x768 : Shape := ⟨2, ![512, 768]⟩
abbrev S512x1920 : Shape := ⟨2, ![512, 1920]⟩
abbrev S512x384 : Shape := ⟨2, ![512, 384]⟩
abbrev S512 : Shape := ⟨1, ![512]⟩
abbrev S512x1 : Shape := ⟨2, ![512, 1]⟩
abbrev S1x512x1 : Shape := ⟨3, ![1, 512, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x384, .f32⟩
  | .hbm, ⟨6, _⟩ => ⟨S384, .f32⟩
  | .hbm, ⟨7, _⟩ => ⟨S384x1, .f32⟩
  | .hbm, ⟨8, _⟩ => ⟨S1, .f32⟩
  | .hbm, ⟨9, _⟩ => ⟨S768x1920, .f32⟩
  | .hbm, ⟨10, _⟩ => ⟨S768x1920, .bf16⟩
  | .hbm, ⟨11, _⟩ => ⟨S1920, .f32⟩
  | .hbm, ⟨12, _⟩ => ⟨S1x1920, .f32⟩
  | .hbm, ⟨13, _⟩ => ⟨S1x384, .f32⟩
  | .hbm, ⟨14, _⟩ => ⟨S1x1, .f32⟩
  | .hbm, ⟨15, _⟩ => ⟨S4x8192x1, .f32⟩
  | .hbm, ⟨16, _⟩ => ⟨S4x8192x1, .i32⟩
  | .local _ .vmem, ⟨0, _⟩ => ⟨S1x4096x768, .f32⟩
  | .local _ .vmem, ⟨1, _⟩ => ⟨S1x4096x768, .f32⟩
  | .local _ .vmem, ⟨2, _⟩ => ⟨S768x1920, .bf16⟩
  | .local _ .vmem, ⟨3, _⟩ => ⟨S1x1920, .f32⟩
  | .local _ .vmem, ⟨4, _⟩ => ⟨S1x384, .f32⟩
  | .local _ .vmem, ⟨5, _⟩ => ⟨S1x1, .f32⟩
  | .local _ .vmem, ⟨6, _⟩ => ⟨S1x4096x1, .f32⟩
  | .local _ .vmem, ⟨7, _⟩ => ⟨S1x4096x1, .f32⟩
  | .local _ .vmem, ⟨8, _⟩ => ⟨S1x4096x1, .i32⟩
  | .local _ .vmem, ⟨9, _⟩ => ⟨S1x4096x1, .i32⟩
  | .local _ .vmem, ⟨10, _⟩ => ⟨S1x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x768 : Shape := ⟨3, ![4, 8192, 768]⟩
abbrev S768x768 : Shape := ⟨2, ![768, 768]⟩
abbrev S768 : Shape := ⟨1, ![768]⟩
abbrev S768x384 : Shape := ⟨2, ![768, 384]⟩
abbrev S384 : Shape := ⟨1, ![384]⟩
abbrev S384x1 : Shape := ⟨2, ![384, 1]⟩
abbrev S1 : Shape := ⟨1, ![1]⟩
abbrev S1x1x768 : Shape := ⟨3, ![1, 1, 768]⟩
abbrev S4x8191x768 : Shape := ⟨3, ![4, 8191, 768]⟩
abbrev S_ : Shape := ⟨0, ![]⟩
abbrev S4x8191 : Shape := ⟨2, ![4, 8191]⟩
abbrev S4x1 : Shape := ⟨2, ![4, 1]⟩
abbrev S4x8192 : Shape := ⟨2, ![4, 8192]⟩
abbrev S4x8192x384 : Shape := ⟨3, ![4, 8192, 384]⟩
abbrev S1x1x384 : Shape := ⟨3, ![1, 1, 384]⟩
abbrev S4x8192x1 : Shape := ⟨3, ![4, 8192, 1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x384, .f32⟩
  | .hbm, ⟨6, _⟩ => ⟨S384, .f32⟩
  | .hbm, ⟨7, _⟩ => ⟨S384x1, .f32⟩
  | .hbm, ⟨8, _⟩ => ⟨S1, .f32⟩
  | .hbm, ⟨9, _⟩ => ⟨S4x8192x768, .f32⟩
  | .hbm, ⟨10, _⟩ => ⟨S1x1x768, .f32⟩
  | .hbm, ⟨11, _⟩ => ⟨S4x8192x768, .f32⟩
  | .hbm, ⟨12, _⟩ => ⟨S4x8192x768, .f32⟩
  | .hbm, ⟨13, _⟩ => ⟨S4x8192x768, .f32⟩
  | .hbm, ⟨14, _⟩ => ⟨S1x1x768, .f32⟩
  | .hbm, ⟨15, _⟩ => ⟨S4x8192x768, .f32⟩
  | .hbm, ⟨16, _⟩ => ⟨S4x8192x768, .f32⟩
  | .hbm, ⟨17, _⟩ => ⟨S4x8191x768, .f32⟩
  | .hbm, ⟨18, _⟩ => ⟨S4x8191x768, .f32⟩
  | .hbm, ⟨19, _⟩ => ⟨S4x8191x768, .f32⟩
  | .hbm, ⟨20, _⟩ => ⟨S_, .f32⟩
  | .hbm, ⟨21, _⟩ => ⟨S4x8191, .f32⟩
  | .hbm, ⟨22, _⟩ => ⟨S4x8191, .f32⟩
  | .hbm, ⟨23, _⟩ => ⟨S_, .f32⟩
  | .hbm, ⟨24, _⟩ => ⟨S4x8191, .f32⟩
  | .hbm, ⟨25, _⟩ => ⟨S4x8191, .f32⟩
  | .hbm, ⟨26, _⟩ => ⟨S4x8191x768, .f32⟩
  | .hbm, ⟨27, _⟩ => ⟨S_, .f32⟩
  | .hbm, ⟨28, _⟩ => ⟨S4x8191, .f32⟩
  | .hbm, ⟨29, _⟩ => ⟨S4x8191, .f32⟩
  | .hbm, ⟨30, _⟩ => ⟨S_, .f32⟩
  | .hbm, ⟨31, _⟩ => ⟨S4x8191, .f32⟩
  | .hbm, ⟨32, _⟩ => ⟨S4x8191, .f32⟩
  | .hbm, ⟨33, _⟩ => ⟨S4x8191x768, .f32⟩
  | .hbm, ⟨34, _⟩ => ⟨S_, .f32⟩
  | .hbm, ⟨35, _⟩ => ⟨S4x8191, .f32⟩
  | .hbm, ⟨36, _⟩ => ⟨S4x8191, .f32⟩
  | .hbm, ⟨37, _⟩ => ⟨S4x8191, .f32⟩
  | .hbm, ⟨38, _⟩ => ⟨S_, .f32⟩
  | .hbm, ⟨39, _⟩ => ⟨S4x8191, .f32⟩
  | .hbm, ⟨40, _⟩ => ⟨S4x8191, .f32⟩
  | .hbm, ⟨41, _⟩ => ⟨S_, .f32⟩
  | .hbm, ⟨42, _⟩ => ⟨S4x8191, .f32⟩
  | .hbm, ⟨43, _⟩ => ⟨S4x8191, .f32⟩
  | .hbm, ⟨44, _⟩ => ⟨S_, .f32⟩
  | .hbm, ⟨45, _⟩ => ⟨S4x1, .f32⟩
  | .hbm, ⟨46, _⟩ => ⟨S4x8192, .f32⟩
  | .hbm, ⟨47, _⟩ => ⟨S4x8192x384, .f32⟩
  | .hbm, ⟨48, _⟩ => ⟨S1x1x384, .f32⟩
  | .hbm, ⟨49, _⟩ => ⟨S4x8192x384, .f32⟩
  | .hbm, ⟨50, _⟩ => ⟨S4x8192x384, .f32⟩
  | .hbm, ⟨51, _⟩ => ⟨S_, .f32⟩
  | .hbm, ⟨52, _⟩ => ⟨S4x8192x384, .f32⟩
  | .hbm, ⟨53, _⟩ => ⟨S4x8192x384, .f32⟩
  | .hbm, ⟨54, _⟩ => ⟨S4x8192x1, .f32⟩
  | .hbm, ⟨55, _⟩ => ⟨S1x1x1, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S4x8192, .f32⟩
  | .hbm, ⟨67, _⟩ => ⟨S_, .f32⟩
  | .hbm, ⟨68, _⟩ => ⟨S4x8192, .f32⟩
  | .hbm, ⟨69, _⟩ => ⟨S4x8192, .f32⟩
  | .hbm, ⟨70, _⟩ => ⟨S_, .f32⟩
  | .hbm, ⟨71, _⟩ => ⟨S4x8192, .f32⟩
  | .hbm, ⟨72, _⟩ => ⟨S4x8192, .f32⟩
  | .hbm, ⟨73, _⟩ => ⟨S4x8192, .f32⟩
  | .hbm, ⟨74, _⟩ => ⟨S_, .f32⟩
  | .hbm, ⟨75, _⟩ => ⟨S4x8192, .f32⟩
  | .hbm, ⟨76, _⟩ => ⟨S4x8192, .i1⟩
  | .hbm, ⟨77, _⟩ => ⟨S4x8192, .i32⟩
  | .hbm, ⟨78, _⟩ => ⟨S4x8192x1, .f32⟩
  | .hbm, ⟨79, _⟩ => ⟨S4x8192x1, .i32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.Run.lean ====
/- One call of the kernel body of `KernelIdeal`, run on memrefs of the windows' shapes: what it reads, and the
   pieces it leaves in its two output blocks and in the scratch row it carries from one grid point to the next.
   The body never branches, so one run serves every grid point. The body reads the scratch row before it
   writes it, so the run takes the row's contents as a parameter. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1000000 in
/-- The body's run. Given the five input blocks at `x0 … x4`, the scratch row at `xs` and the two output blocks at
    anything, the body gives the inputs back unchanged and leaves in each output and in the scratch row some earlier
    contents overwritten by a list of pieces (last store first). The lists are the first three components. -/
def bodyRun (c : Dev nD) (i : grid0.Coords)
    (a2 : Memref sig .tc .vmem S1x4096x768 .f32) (h2 : a2.IsWhole) (a3 : Memref sig .tc .vmem S768x1920 .bf16) (h3 : a3.IsWhole)
    (a4 : Memref sig .tc .vmem S1x1920 .f32) (h4 : a4.IsWhole) (a5 : Memref sig .tc .vmem S1x384 .f32) (h5 : a5.IsWhole)
    (a6 : Memref sig .tc .vmem S1x1 .f32) (h6 : a6.IsWhole) (a7 : Memref sig .tc .vmem S1x4096x1 .f32) (h7 : a7.IsWhole)
    (a8 : Memref sig .tc .vmem S1x4096x1 .i32) (h8 : a8.IsWhole) (a9 : Memref sig .tc .vmem S1x768 .f32) (h9 : a9.IsWhole)
    (x0 : Vec F S1x4096x768 .f32) (x1 : Vec F S768x1920 .bf16) (x2 : Vec F S1x1920 .f32) (x3 : Vec F S1x384 .f32)
    (x4 : Vec F S1x1 .f32) (xs : Vec F S1x768 .f32) :
    Σ' (Lf : List (View.Piece (Elt F) S1x4096x1 .f32)), Σ' (Lm : List (View.Piece (Elt F) S1x4096x1 .i32)),
      { Ls : List (View.Piece (Elt F) S1x768 .f32) //
        ∀ (E : Set ℕ) (K : PUnit → sProp 𝕄),
          iprop(owns (c : Thread nD τ) a2 fullShare x0 ∗ owns (c : Thread nD τ) a3 fullShare x1
              ∗ owns (c : Thread nD τ) a4 fullShare x2 ∗ owns (c : Thread nD τ) a5 fullShare x3
              ∗ owns (c : Thread nD τ) a6 fullShare x4 ∗ (∃ d, owns (c : Thread nD τ) a7 fullShare d)
              ∗ (∃ d, owns (c : Thread nD τ) a8 fullShare d) ∗ owns (c : Thread nD τ) a9 fullShare xs
              ∗ (iprop(owns (c : Thread nD τ) a2 fullShare x0 ∗ owns (c : Thread nD τ) a3 fullShare x1
                  ∗ owns (c : Thread nD τ) a4 fullShare x2 ∗ owns (c : Thread nD τ) a5 fullShare x3
                  ∗ owns (c : Thread nD τ) a6 fullShare x4
                  ∗ (∃ f, a7.view.loc (c : Thread nD τ) ↦[a7.view.set]{fullShare} a7.view.writes (Elt F) f Lf)
                  ∗ (∃ f, a8.view.loc (c : Thread nD τ) ↦[a8.view.set]{fullShare} a8.view.writes (Elt F) f Lm)
                  ∗ (∃ f, a9.view.loc (c : Thread nD τ) ↦[a9.view.set]{fullShare} a9.view.writes (Elt F) f Ls)) -∗ K ⟨⟩))
            ⊢ wp frame (wpE (defs₀ (F := F)) Variants.none c none) E
                (cc0__chunker_kernel i a2 h2 a3 h3 a4 h4 a5 h5 a6 h6 a7 h7 a8 h8 a9 h9) K } := by
  refine ⟨?_, ?_, ?_, fun E K => ?run⟩
  case run =>
    simp only [cc0__chunker_kernel_eq_skeleton]; unfold cc0__chunker_kernel_skel
    simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := h2.eq_unread hf0
    obtain rfl := h3.eq_unread hf1
    obtain rfl := h4.eq_unread hf2
    obtain rfl := h5.eq_unread hf3
    obtain rfl := h6.eq_unread hf4
    obtain rfl := h9.eq_unread hfs
    sl_exec
    sl_step
    iapply Hk
    isplitl [H0]; (iexists _; isplitr; ipureintro; exact h2.read_unread _; iexact H0)
    isplitl [H1]; (iexists _; isplitr; ipureintro; exact h3.read_unread _; iexact H1)
    isplitl [H2]; (iexists _; isplitr; ipureintro; exact h4.read_unread _; iexact H2)
    isplitl [H3]; (iexists _; isplitr; ipureintro; exact h5.read_unread _; iexact H3)
    isplitl [H4]; (iexists _; isplitr; ipureintro; exact h6.read_unread _; iexact H4)
    isplitl [H5]; · iexists _; iexact H5
    isplitl [H6]; · iexists _; iexact H6
    iexists _; iexact HS

end Cert.KernelIdeal.Hand

end
-- ==== Proof.Frame.lean ====
/- The kernel's frame at any float semantics: every execution of the program ends, leaves the nine arguments as it found
   them and every semaphore counter at zero. Nothing is said here of what the two results hold, so the scratch row is
   only ever held at some contents, before and after each point. The two printed programs, the kernel and its
   idealization, are one program up to their names, so the frame of one is the frame of the other. -/
module

public import proofs.«01_k».proof.Defs
public import proofs.«01_k».proof.Proof.Gen.Kernel
public import proofs.«01_k».proof.Proof.Run
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of each window at point `t`. -/
abbrev st0 (t : Fin cfg0.N) : Memref sig .tc .vmem S1x4096x768 .f32 := win0_0.stage (cfg0.slots t 0)
@[inherit_doc st0] abbrev st1 (t : Fin cfg0.N) : Memref sig .tc .vmem S768x1920 .bf16 := win0_1.stage (cfg0.slots t 1)
@[inherit_doc st0] abbrev st2 (t : Fin cfg0.N) : Memref sig .tc .vmem S1x1920 .f32 := win0_2.stage (cfg0.slots t 2)
@[inherit_doc st0] abbrev st3 (t : Fin cfg0.N) : Memref sig .tc .vmem S1x384 .f32 := win0_3.stage (cfg0.slots t 3)
@[inherit_doc st0] abbrev st4 (t : Fin cfg0.N) : Memref sig .tc .vmem S1x1 .f32 := win0_4.stage (cfg0.slots t 4)
@[inherit_doc st0] abbrev st5 (t : Fin cfg0.N) : Memref sig .tc .vmem S1x4096x1 .f32 := win0_5.stage (cfg0.slots t 5)
@[inherit_doc st0] abbrev st6 (t : Fin cfg0.N) : Memref sig .tc .vmem S1x4096x1 .i32 := win0_6.stage (cfg0.slots t 6)
/-- The scratch row. -/
abbrev scr : Memref sig .tc .vmem S1x768 .f32 := Memref.whole cc0_scratch0

/-- What the region starts from: the scratch row at anything, and the generator's register. -/
theorem start_eq (c : Dev nD) : (Pipeline.ΦA spec0 c : sProp 𝕄)
    = iprop((∃ d, owns (c : Thread nD τ) scr fullShare d) ∗ (∃ r, prngReg c r)) := by
  unfold Pipeline.ΦA
  rw [scopedRest0_eq]
  simp only [scr, owns_whole]
  try rfl

/-- The body table's row at point `t`. -/
theorem defs₀_row (t : Fin cfg0.N) : defs₀ (F := F) .tc cfg0.body (cfg0.bodyArgs t (cfg0.slots t)) = bodyAt0 t := by
  unfold defs₀; rw [Defs.onTc_tc]

/-- The two result windows, of which the frame says nothing. -/
def unsaid : Fin 7 → Bool := fun w => w.val == 5 || w.val == 6

/-- The frame's proof data: each input block stays, the results are not named, and the invariant is the region's own. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays of the proof data are those the region finds. -/
theorem frameDats_A (c : Dev nD) (w : Fin cfg0.W) : (frameDats m 0 c).A w = V m c (Pipeline.arrRef spec0 w) := by
  dsimp only [frameDats]

/-- The body leaves this input window at its block. -/
theorem frameDats_after_0 (c : Dev nD) (t : Fin cfg0.N) : (frameDats m 0 c).after 0 t = iblk m c 0 t := by dsimp only [frameDats]
/-- The body leaves this input window at its block. -/
theorem frameDats_after_1 (c : Dev nD) (t : Fin cfg0.N) : (frameDats m 0 c).after 1 t = iblk m c 1 t := by dsimp only [frameDats]
/-- The body leaves this input window at its block. -/
theorem frameDats_after_2 (c : Dev nD) (t : Fin cfg0.N) : (frameDats m 0 c).after 2 t = iblk m c 2 t := by dsimp only [frameDats]
/-- The body leaves this input window at its block. -/
theorem frameDats_after_3 (c : Dev nD) (t : Fin cfg0.N) : (frameDats m 0 c).after 3 t = iblk m c 3 t := by dsimp only [frameDats]
/-- The body leaves this input window at its block. -/
theorem frameDats_after_4 (c : Dev nD) (t : Fin cfg0.N) : (frameDats m 0 c).after 4 t = iblk m c 4 t := by dsimp only [frameDats]

/-- A whole buffer at some stored pieces is owned at some contents. -/
theorem owns_some {sh : Shape} {e : EltTy} (c : Dev nD) (a : Memref sig .tc .vmem sh e) (L : List (View.Piece (Elt F) sh e)) :
    iprop(∃ f, a.view.loc (c : Thread nD τ) ↦[a.view.set]{fullShare} a.view.writes (Elt F) f L)
      ⊢ (iprop(∃ d, owns (c : Thread nD τ) a fullShare d) : sProp 𝕄) := by
  unfold owns
  iintro ⟨%f, H⟩
  iexists _; iexists _
  isplitr
  swap; · iexact H
  ipureintro; rfl

/-- What the body is called with at point `t` and what it gives back: the inputs at their blocks, the rest at anything. -/
def framePart (c : Dev nD) (t : Fin cfg0.N) : sProp 𝕄 :=
  iprop(owns (c : Thread nD τ) (st0 t) fullShare (iblk m c 0 t) ∗ owns (c : Thread nD τ) (st1 t) fullShare (iblk m c 1 t)
    ∗ owns (c : Thread nD τ) (st2 t) fullShare (iblk m c 2 t) ∗ owns (c : Thread nD τ) (st3 t) fullShare (iblk m c 3 t)
    ∗ owns (c : Thread nD τ) (st4 t) fullShare (iblk m c 4 t) ∗ (∃ d, owns (c : Thread nD τ) (st5 t) fullShare d)
    ∗ (∃ d, owns (c : Thread nD τ) (st6 t) fullShare d) ∗ (∃ d, owns (c : Thread nD τ) scr fullShare d))

set_option maxHeartbeats 1000000 in
/-- The body at point `t` keeps all it is called with. -/
theorem body_keeps (c : Dev nD) (t : Fin cfg0.N) (R : sProp 𝕄) : iprop(framePart m c t ∗ R)
    ⊢ wp frame (wpE (defs₀ (F := F)) Variants.none c none) Set.univ (bodyAt0 t) (fun _ => iprop(framePart m c t ∗ R)) := by
  unfold framePart bodyAt0
  iintro ⟨⟨H0, H1, H2, H3, H4, H5, H6, ⟨%d, HS⟩⟩, HR⟩
  iapply ((bodyRun c (grid0.coords t) _ _ _ _ _ _ _ _ _ _ _ _ _ _ _ _
    (iblk m c 0 t) (iblk m c 1 t) (iblk m c 2 t) (iblk m c 3 t) (iblk m c 4 t) d).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitr [HR]
  · isplitl [H0]; · iexact H0
    isplitl [H1]; · iexact H1
    isplitl [H2]; · iexact H2
    isplitl [H3]; · iexact H3
    isplitl [H4]; · iexact H4
    isplitl [H5]; · iapply (owns_some c _ _); iexact H5
    isplitl [H6]; · iapply (owns_some c _ _); iexact H6
    iapply (owns_some c _ _); iexact HS
  iexact HR

/-- The body's obligation at every point, the results left unsaid. -/
theorem frame_obligation (c : Dev nD) :
    BodyObligation (frameDats (F := F) m 0 c) (defs₀ (F := F)) Variants.none () Set.univ unsaid := fun t => by
  have hin : iprop((Pipeline.ΦA spec0 c : sProp 𝕄) ∗ (frameDats m 0 c).owesAt () t.castSucc
      ∗ (∃ d, owns (c : Thread nD τ) (st0 t) fullShare ((frameDats m 0 c).before 0 t d))
      ∗ (∃ d, owns (c : Thread nD τ) (st1 t) fullShare ((frameDats m 0 c).before 1 t d))
      ∗ (∃ d, owns (c : Thread nD τ) (st2 t) fullShare ((frameDats m 0 c).before 2 t d))
      ∗ (∃ d, owns (c : Thread nD τ) (st3 t) fullShare ((frameDats m 0 c).before 3 t d))
      ∗ (∃ d, owns (c : Thread nD τ) (st4 t) fullShare ((frameDats m 0 c).before 4 t d))
      ∗ (∃ d, owns (c : Thread nD τ) (st5 t) fullShare d) ∗ (∃ d, owns (c : Thread nD τ) (st6 t) fullShare d))
      ⊢ iprop(framePart m c t ∗ (∃ r, prngReg c r) ∗ (frameDats m 0 c).owesAt () t.castSucc) := by
    unfold framePart
    simp only [start_eq, before0_0_of m (frameDats m 0 c) (frameDats_A m c 0) (frameDats_after_0 m c),
      before0_1_of m (frameDats m 0 c) (frameDats_A m c 1) (frameDats_after_1 m c),
      before0_2_of m (frameDats m 0 c) (frameDats_A m c 2) (frameDats_after_2 m c),
      before0_3_of m (frameDats m 0 c) (frameDats_A m c 3) (frameDats_after_3 m c),
      before0_4_of m (frameDats m 0 c) (frameDats_A m c 4) (frameDats_after_4 m c)]
    iintro ⟨⟨HS, Hg⟩, Ho, ⟨%d0, H0⟩, ⟨%d1, H1⟩, ⟨%d2, H2⟩, ⟨%d3, H3⟩, ⟨%d4, H4⟩, H5, H6⟩
    isplitr [Hg Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    isplitl [Hg]; · iexact Hg
    iexact Ho
  have hout : iprop(framePart m c t ∗ (∃ r, prngReg c r) ∗ (frameDats m 0 c).owesAt () t.castSucc)
      ⊢ iprop((Pipeline.ΦA spec0 c : sProp 𝕄) ∗ (frameDats m 0 c).owesAt () t.castSucc
      ∗ owns (c : Thread nD τ) (st0 t) fullShare ((frameDats m 0 c).after 0 t)
      ∗ owns (c : Thread nD τ) (st1 t) fullShare ((frameDats m 0 c).after 1 t)
      ∗ owns (c : Thread nD τ) (st2 t) fullShare ((frameDats m 0 c).after 2 t)
      ∗ owns (c : Thread nD τ) (st3 t) fullShare ((frameDats m 0 c).after 3 t)
      ∗ owns (c : Thread nD τ) (st4 t) fullShare ((frameDats m 0 c).after 4 t)
      ∗ (∃ d, owns (c : Thread nD τ) (st5 t) fullShare d) ∗ (∃ d, owns (c : Thread nD τ) (st6 t) fullShare d)) := by
    unfold framePart
    rw [start_eq, frameDats_after_0, frameDats_after_1, frameDats_after_2, frameDats_after_3, frameDats_after_4]
    iintro ⟨⟨H0, H1, H2, H3, H4, H5, H6, HS⟩, Hg, Ho⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [bigSep_W0, bigSep_W0, defs₀_row]
  exact triple_restated (hin.trans ((body_keeps m c t _).trans (Idealize.SL.Sem.wp_mono _ _ _ fun _ => hout))) rfl .rfl fun _ => .rfl

set_option backward.isDefEq.respectTransparency.types false in
/-- The launch: every execution ends with each array as the frame's proof data allows, every other buffer as the region
    found it, and every semaphore counter at zero. -/
theorem frame_run : θ_run defs (onTc (τ := τ) (main (F := F))) (s₀ m ρ)
    (fun r => (Pipeline.RDat.FramePost (cfgs 0) (fun c => (frameDats m 0 c).toRForget unsaid) (V m)) r ∧ r.2.sem = fun _ => 0) :=
  Pipeline.θ_run_frame_forget (Q' := _) cfgs (frameDats m) (0 : Fin 1) launch0 defs₀ Variants.none unsaid m ρ main
    (hbody := fun c => (frame_obligation m c).loose) (hshare := fun c => (frameDats m 0 c).share_full fun _ => rfl)
    (howed := fun _ _ => rfl) (V := V m) (hmain := hmain m Variants.none) (hA := frameDats_A m) (hΦ := fun _ _ => rfl)

/-- The first argument, which the pipeline stages, ends as it was launched. -/
theorem frame_arg0 {r : PUnit × MemSt nD τ sig (Elt F)}
    (h : Pipeline.RDat.FramePost (cfgs 0) (fun c => (frameDats m 0 c).toRForget unsaid) (V m) r) (c : Dev nD) :
    r.2.mem ((c.tc : Thread nD τ).loc main_arg0) = m ((c.tc : Thread nD τ).loc main_arg0) :=
  (((frameDats m 0 c).toRForget_arrAt_iff (fgt := unsaid) (w := 0) rfl _ _).mp ((h c).1 0)).trans
    (((frameDats m 0 c).arrAt_in 0 rfl _).trans ((frameDats_A m c 0).trans (V_main_arg0 m c)))

/-- Any buffer that the region does not touch and no host operation before it writes ends as it was launched. -/
theorem frame_rest {r : PUnit × MemSt nD τ sig (Elt F)}
    (h : Pipeline.RDat.FramePost (cfgs 0) (fun c => (frameDats m 0 c).toRForget unsaid) (V m) r) (c : Dev nD)
    {b : Ref sig .tc} (hb : b ∈ Pipeline.restRefs sig spec0) (hV : V m c b = m ((c.tc : Thread nD τ).loc b)) :
    r.2.mem ((c.tc : Thread nD τ).loc b) = m ((c.tc : Thread nD τ).loc b) := ((h c).2 b hb).trans hV

end Cert.KernelIdeal.Hand

namespace Cert.Proof

open Idealize.ShloMosaic Idealize.ShloMosaic.TcCoe Idealize.SL.Sem

/-- The body tables of the kernel and of its idealization are equal: the same function at every grid point. -/
theorem tables_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

/-- So are the two programs' tables with the pipeline's own functions. -/
theorem programs_eq {F : FTy → Type} [FloatOps F] : Cert.Kernel.defs (F := F) = Cert.KernelIdeal.defs (F := F) :=
  congrArg (Pipeline.defs Cert.KernelIdeal.pcfgs) tables_eq

/-- The kernel as printed runs, its arguments end unchanged, and every semaphore counter ends at zero. -/
theorem frame_kernel : Cert.quiescent_Kernel := fun m g _ => by
  rw [programs_eq]
  exact θ_run_mono (Cert.KernelIdeal.Hand.frame_run (F := Bits) m g) fun r h => ⟨fun c =>
    ⟨Cert.KernelIdeal.Hand.frame_arg0 m h.1 c,
      Cert.KernelIdeal.Hand.frame_rest m h.1 c (Pipeline.mem_restRefs_of _ (by decide) (by decide)) (Cert.KernelIdeal.Gen.V_main_arg1 m c),
      Cert.KernelIdeal.Hand.frame_rest m h.1 c (Pipeline.mem_restRefs_of _ (by decide) (by decide)) (Cert.KernelIdeal.Gen.V_main_arg2 m c),
      Cert.KernelIdeal.Hand.frame_rest m h.1 c (Pipeline.mem_restRefs_of _ (by decide) (by decide)) (Cert.KernelIdeal.Gen.V_main_arg3 m c),
      Cert.KernelIdeal.Hand.frame_rest m h.1 c (Pipeline.mem_restRefs_of _ (by decide) (by decide)) (Cert.KernelIdeal.Gen.V_main_arg4 m c),
      Cert.KernelIdeal.Hand.frame_rest m h.1 c (Pipeline.mem_restRefs_of _ (by decide) (by decide)) (Cert.KernelIdeal.Gen.V_main_arg5 m c),
      Cert.KernelIdeal.Hand.frame_rest m h.1 c (Pipeline.mem_restRefs_of _ (by decide) (by decide)) (Cert.KernelIdeal.Gen.V_main_arg6 m c),
      Cert.KernelIdeal.Hand.frame_rest m h.1 c (Pipeline.mem_restRefs_of _ (by decide) (by decide)) (Cert.KernelIdeal.Gen.V_main_arg7 m c),
      Cert.KernelIdeal.Hand.frame_rest m h.1 c (Pipeline.mem_restRefs_of _ (by decide) (by decide)) (Cert.KernelIdeal.Gen.V_main_arg8 m c)⟩, h.2⟩

end Cert.Proof

end
-- ==== Proof.Block.lean ====
/- What one call of the kernel body computes, written once for a sub-block of 512 rows and used for all eight.
   The body of `KernelIdeal` goes through its 4096 rows in eight sub-blocks. For each it projects the rows
   (`proj`), cuts the projection into queries, keys and the hidden layer of the retention head, and combines the
   cosine distance between each query and the key of the row before it with the head's output (`score`). The key
   before a sub-block's first row is the last key of the sub-block before it (`lastKey`); for the first sub-block it
   is the carried scratch row. -/
module

public import proofs.«01_k».proof.Proof.Run
public import Idealize.ShloMosaic.Lib.Pipeline.Value

@[expose] public section

set_option maxRecDepth 16384

noncomputable section

namespace Cert.KernelIdeal.Hand

open Idealize.ShloMosaic Idealize.ShloMosaic.TcCoe
open Cert.KernelIdeal.Gen

variable {F : FTy → Type} [FloatOps F]

/-- The projection of the 512 rows of `x` from row `o` on: their product with the joined weights plus the joined biases. -/
def proj (o : ℕ) (ho : S4096x768.Slices ![o, 0] S512x768) (x : Vec F S1x4096x768 .f32) (w : Vec F S768x1920 .bf16)
    (b : Vec F S1x1920 .f32) : FVec F S512x1920 .f32 :=
  addf (matmul dot_S512x768_S768x1920_S512x1920_1_0_0_1_n_n none
      (truncf .bf16 (extractStridedSlice S512x768 ![o, 0] (shapeCast S4096x768 x shapeCasts_S1x4096x768_S4096x768) ho) bitsLt_bf16_f32)
      (shapeCast S768x1920 w shapeCasts_S768x1920_S768x1920) (constant S512x1920 .f32 0x00000000#32))
    (broadcastTo S512x1920 (shapeCast S1x1920 b shapeCasts_S1x1920_S1x1920) broadcasts_S1x1920_S512x1920)

/-- The queries: the projection's first 768 columns. -/
def qry (y : FVec F S512x1920 .f32) : FVec F S512x768 .f32 := extractStridedSlice S512x768 ![0, 0] y slices_S512x1920_o0_0_S512x768

/-- The keys: its next 768 columns. -/
def key (y : FVec F S512x1920 .f32) : FVec F S512x768 .f32 := extractStridedSlice S512x768 ![0, 768] y slices_S512x1920_o0_768_S512x768

/-- The key of a sub-block's last row. -/
def lastKey (y : FVec F S512x1920 .f32) : FVec F S1x768 .f32 := extractStridedSlice S1x768 ![511, 0] (key y) slices_S512x768_o511_0_S1x768

/-- The retention head: the clipped last 384 columns against the second weight row, plus its bias, through the logistic. -/
def retain (w2 : Vec F S1x384 .f32) (b2 : Vec F S1x1 .f32) (y : FVec F S512x1920 .f32) : FVec F S512x1 .f32 :=
  logistic (addf (shapeCast S512x1 (multiReduction .add [1] S512 (mulf
      (extf .f32 (truncf .bf16 (maximumf (extractStridedSlice S512x384 ![0, 1536] y slices_S512x1920_o0_1536_S512x384)
        (broadcast S512x384 (Scalar.ofBits .f32 0x00000000#32))) bitsLt_bf16_f32) bitsLt_bf16_f32)
      (broadcastTo S512x384 (extf .f32 (truncf .bf16 (shapeCast S1x384 w2 shapeCasts_S1x384_S1x384) bitsLt_bf16_f32) bitsLt_bf16_f32)
        broadcasts_S1x384_S512x384)) 0x00000000#32 reduces_S512x384_S512 (.inl rfl) rfl) shapeCasts_S512_S512x1)
    (broadcastTo S512x1 (shapeCast S1x1 b2 shapeCasts_S1x1_S1x1) broadcasts_S1x1_S512x1))

/-- Each row's inner product of two tables of 512 rows. -/
def rowDot (p q : FVec F S512x768 .f32) : FVec F S512x1 .f32 :=
  shapeCast S512x1 (multiReduction .add [1] S512 (mulf p q) 0x00000000#32 reduces_S512x768_S512 (.inl rfl) rfl) shapeCasts_S512_S512x1

/-- The keys one row down, the key `kp` of the row before in front. -/
def shiftKey (kp : FVec F S1x768 .f32) (y : FVec F S512x1920 .f32) : FVec F S512x768 .f32 :=
  select (cmpi .eq (iota .tc S512x768 32 [0] iota_S512x768_d0_w32) (broadcast S512x768 0#32))
    (broadcastTo S512x768 (shapeCast S1x768 kp shapeCasts_S1x768_S1x768) broadcasts_S1x768_S512x768)
    (dynamicRotate 0 1#32 none (key y) rotates_S512x768_d0)

/-- Their norms, the same way: the norms one row down, the norm of `kp` in front. -/
def shiftNorm (kp : FVec F S1x768 .f32) (y : FVec F S512x1920 .f32) : FVec F S512x1 .f32 :=
  select (cmpi .eq (iota .tc S512x1 32 [0] iota_S512x1_d0_w32) (broadcast S512x1 0#32))
    (broadcastTo S512x1 (shapeCast S1x1 (sqrt (shapeCast S1x1 (multiReduction .add [1] S1 (mulf kp kp) 0x00000000#32
      reduces_S1x768_S1 (.inl rfl) rfl) shapeCasts_S1_S1x1)) shapeCasts_S1x1_S1x1) broadcasts_S1x1_S512x1)
    (dynamicRotate 0 1#32 none (sqrt (rowDot (key y) (key y))) rotates_S512x1_d0)

/-- Half of one minus the cosine between each query and the key before it. -/
def dist (kp : FVec F S1x768 .f32) (y : FVec F S512x1920 .f32) : FVec F S512x1 .f32 :=
  mulf (broadcast S512x1 (Scalar.ofBits .f32 0x3F000000#32)) (subf (broadcast S512x1 (Scalar.ofBits .f32 0x3F800000#32))
    (divf (rowDot (qry y) (shiftKey kp y))
      (mulf (maximumf (sqrt (rowDot (qry y) (qry y))) (broadcast S512x1 (Scalar.ofBits .f32 0x322BCC77#32)))
        (maximumf (shiftNorm kp y) (broadcast S512x1 (Scalar.ofBits .f32 0x322BCC77#32))))))

/-- `dist`, with one in the first row of the sequence's first block (`arg1`, the block's number, being zero). -/
def distFirst (arg1 : BitVec 32) (kp : FVec F S1x768 .f32) (y : FVec F S512x1920 .f32) : FVec F S512x1 .f32 :=
  select (andi (broadcast S512x1 (Scalar.cmpi .eq arg1 0#32))
      (cmpi .eq (iota .tc S512x1 32 [0] iota_S512x1_d0_w32) (broadcast S512x1 0#32)))
    (broadcast S512x1 (Scalar.ofBits .f32 0x3F800000#32)) (dist kp y)

/-- The weighted sum of a distance and a retention. -/
def score (d r : FVec F S512x1 .f32) : FVec F S512x1 .f32 :=
  addf (mulf (broadcast S512x1 (Scalar.ofBits .f32 0x3F333333#32)) d) (mulf (broadcast S512x1 (Scalar.ofBits .f32 0x3E99999A#32)) r)

/-- What is stored of a score: the score itself, -/
def storeF (f : FVec F S512x1 .f32) : FVec F S1x512x1 .f32 := shapeCast S1x512x1 f shapeCasts_S512x1_S1x512x1

/-- and whether it exceeds one half, as an integer. -/
def storeM (f : FVec F S512x1 .f32) : IVec S1x512x1 32 :=
  shapeCast S1x512x1 (extui 32 (cmpf .ogt f (broadcast S512x1 (Scalar.ofBits .f32 0x3F000000#32))) natLt_1_32) shapeCasts_S512x1_S1x512x1

/-- The first sub-block's scores. -/
def score0 (arg1 : BitVec 32) (x : Vec F S1x4096x768 .f32) (w : Vec F S768x1920 .bf16) (b : Vec F S1x1920 .f32)
    (w2 : Vec F S1x384 .f32) (b2 : Vec F S1x1 .f32) (kp : Vec F S1x768 .f32) : FVec F S512x1 .f32 :=
  score (distFirst arg1 kp (proj 0 slices_S4096x768_o0_0_S512x768 x w b)) (retain w2 b2 (proj 0 slices_S4096x768_o0_0_S512x768 x w b))

/-- The scores of the sub-block at row `o`, the sub-block before it being at row `o'`. -/
def scoreAt (o' : ℕ) (ho' : S4096x768.Slices ![o', 0] S512x768) (o : ℕ) (ho : S4096x768.Slices ![o, 0] S512x768)
    (x : Vec F S1x4096x768 .f32) (w : Vec F S768x1920 .bf16) (b : Vec F S1x1920 .f32)
    (w2 : Vec F S1x384 .f32) (b2 : Vec F S1x1 .f32) : FVec F S512x1 .f32 :=
  score (dist (lastKey (proj o' ho' x w b)) (proj o ho x w b)) (retain w2 b2 (proj o ho x w b))

variable (arg1 : BitVec 32) (x : Vec F S1x4096x768 .f32) (w : Vec F S768x1920 .bf16) (b : Vec F S1x1920 .f32)
    (w2 : Vec F S1x384 .f32) (b2 : Vec F S1x1 .f32) (kp : Vec F S1x768 .f32)

/-- The eight sub-blocks' scores put as pieces through `st`, the last sub-block first. -/
def pieces {e : EltTy} (st : FVec F S512x1 .f32 → (S1x512x1.Idx → Elt F e)) : List (View.Piece (Elt F) S1x4096x1 e) :=
  [⟨Rect.unit ![0, 3584, 0] ![1, 512, 1] inb_S1x4096x1_S1x512x1_0_3584_0,
      st (scoreAt 3072 slices_S4096x768_o3072_0_S512x768 3584 slices_S4096x768_o3584_0_S512x768 x w b w2 b2)⟩,
    ⟨Rect.unit ![0, 3072, 0] ![1, 512, 1] inb_S1x4096x1_S1x512x1_0_3072_0,
      st (scoreAt 2560 slices_S4096x768_o2560_0_S512x768 3072 slices_S4096x768_o3072_0_S512x768 x w b w2 b2)⟩,
    ⟨Rect.unit ![0, 2560, 0] ![1, 512, 1] inb_S1x4096x1_S1x512x1_0_2560_0,
      st (scoreAt 2048 slices_S4096x768_o2048_0_S512x768 2560 slices_S4096x768_o2560_0_S512x768 x w b w2 b2)⟩,
    ⟨Rect.unit ![0, 2048, 0] ![1, 512, 1] inb_S1x4096x1_S1x512x1_0_2048_0,
      st (scoreAt 1536 slices_S4096x768_o1536_0_S512x768 2048 slices_S4096x768_o2048_0_S512x768 x w b w2 b2)⟩,
    ⟨Rect.unit ![0, 1536, 0] ![1, 512, 1] inb_S1x4096x1_S1x512x1_0_1536_0,
      st (scoreAt 1024 slices_S4096x768_o1024_0_S512x768 1536 slices_S4096x768_o1536_0_S512x768 x w b w2 b2)⟩,
    ⟨Rect.unit ![0, 1024, 0] ![1, 512, 1] inb_S1x4096x1_S1x512x1_0_1024_0,
      st (scoreAt 512 slices_S4096x768_o512_0_S512x768 1024 slices_S4096x768_o1024_0_S512x768 x w b w2 b2)⟩,
    ⟨Rect.unit ![0, 512, 0] ![1, 512, 1] inb_S1x4096x1_S1x512x1_0_512_0,
      st (scoreAt 0 slices_S4096x768_o0_0_S512x768 512 slices_S4096x768_o512_0_S512x768 x w b w2 b2)⟩,
    ⟨Rect.unit ![0, 0, 0] ![1, 512, 1] inb_S1x4096x1_S1x512x1_0_0_0, st (score0 arg1 x w b w2 b2 kp)⟩]

/-- The scratch row after the body: the last key of the last sub-block. -/
def carry : Vec F S1x768 .f32 := lastKey (proj 3584 slices_S4096x768_o3584_0_S512x768 x w b)

section Pieces

variable (c : Dev nD) (i : grid0.Coords)
  (a2 : Memref sig .tc .vmem S1x4096x768 .f32) (h2 : a2.IsWhole) (a3 : Memref sig .tc .vmem S768x1920 .bf16) (h3 : a3.IsWhole)
  (a4 : Memref sig .tc .vmem S1x1920 .f32) (h4 : a4.IsWhole) (a5 : Memref sig .tc .vmem S1x384 .f32) (h5 : a5.IsWhole)
  (a6 : Memref sig .tc .vmem S1x1 .f32) (h6 : a6.IsWhole) (a7 : Memref sig .tc .vmem S1x4096x1 .f32) (h7 : a7.IsWhole)
  (a8 : Memref sig .tc .vmem S1x4096x1 .i32) (h8 : a8.IsWhole) (a9 : Memref sig .tc .vmem S1x768 .f32) (h9 : a9.IsWhole)

/-- A load of the whole of a whole memref returns its contents. -/
theorem read_whole {s : Shape} {e : EltTy} {a : Memref sig .tc .vmem s e} (h : a.IsWhole) (X : Vec F s e) {off : Fin s.rank → ℕ}
    (h0 : off = fun _ => 0) (inb : ∀ d, off d + s.size d ≤ s.size d) :
    View.readAt (Elt F) a.view (Rect.unit off s.size inb).toLoadRect (h.unread X) = X := by
  rw [View.readAt_eq_ld, h.read_unread]
  exact View.ld_unit_zero h0 inb X

/-- The pieces the body leaves in the first output are the eight sub-blocks' scores. -/
theorem run_f : (bodyRun c i a2 h2 a3 h3 a4 h4 a5 h5 a6 h6 a7 h7 a8 h8 a9 h9 x w b w2 b2 kp).1
    = pieces (BitVec.ofNat 32 (i 1).val) x w b w2 b2 kp storeF := by
  refine Eq.trans (b := pieces (BitVec.ofNat 32 (i 1).val)
    (View.readAt (Elt F) a2.view (Rect.unit ![0, 0, 0] S1x4096x768.size inb_S1x4096x768_S1x4096x768_0_0_0).toLoadRect (h2.unread x))
    (View.readAt (Elt F) a3.view (Rect.unit ![0, 0] S768x1920.size inb_S768x1920_S768x1920_0_0).toLoadRect (h3.unread w))
    (View.readAt (Elt F) a4.view (Rect.unit ![0, 0] S1x1920.size inb_S1x1920_S1x1920_0_0).toLoadRect (h4.unread b))
    (View.readAt (Elt F) a5.view (Rect.unit ![0, 0] S1x384.size inb_S1x384_S1x384_0_0).toLoadRect (h5.unread w2))
    (View.readAt (Elt F) a6.view (Rect.unit ![0, 0] S1x1.size inb_S1x1_S1x1_0_0).toLoadRect (h6.unread b2))
    (View.readAt (Elt F) a9.view (Rect.unit ![0, 0] S1x768.size inb_S1x768_S1x768_0_0).toLoadRect (h9.unread kp)) storeF) rfl ?_
  rw [read_whole h2 x (by funext a; fin_cases a <;> rfl), read_whole h3 w (by funext a; fin_cases a <;> rfl),
    read_whole h4 b (by funext a; fin_cases a <;> rfl), read_whole h5 w2 (by funext a; fin_cases a <;> rfl),
    read_whole h6 b2 (by funext a; fin_cases a <;> rfl), read_whole h9 kp (by funext a; fin_cases a <;> rfl)]

/-- The pieces it leaves in the second output are the same scores against one half. -/
theorem run_m : (bodyRun c i a2 h2 a3 h3 a4 h4 a5 h5 a6 h6 a7 h7 a8 h8 a9 h9 x w b w2 b2 kp).2.1
    = pieces (BitVec.ofNat 32 (i 1).val) x w b w2 b2 kp storeM := by
  refine Eq.trans (b := pieces (BitVec.ofNat 32 (i 1).val)
    (View.readAt (Elt F) a2.view (Rect.unit ![0, 0, 0] S1x4096x768.size inb_S1x4096x768_S1x4096x768_0_0_0).toLoadRect (h2.unread x))
    (View.readAt (Elt F) a3.view (Rect.unit ![0, 0] S768x1920.size inb_S768x1920_S768x1920_0_0).toLoadRect (h3.unread w))
    (View.readAt (Elt F) a4.view (Rect.unit ![0, 0] S1x1920.size inb_S1x1920_S1x1920_0_0).toLoadRect (h4.unread b))
    (View.readAt (Elt F) a5.view (Rect.unit ![0, 0] S1x384.size inb_S1x384_S1x384_0_0).toLoadRect (h5.unread w2))
    (View.readAt (Elt F) a6.view (Rect.unit ![0, 0] S1x1.size inb_S1x1_S1x1_0_0).toLoadRect (h6.unread b2))
    (View.readAt (Elt F) a9.view (Rect.unit ![0, 0] S1x768.size inb_S1x768_S1x768_0_0).toLoadRect (h9.unread kp)) storeM) rfl ?_
  rw [read_whole h2 x (by funext a; fin_cases a <;> rfl), read_whole h3 w (by funext a; fin_cases a <;> rfl),
    read_whole h4 b (by funext a; fin_cases a <;> rfl), read_whole h5 w2 (by funext a; fin_cases a <;> rfl),
    read_whole h6 b2 (by funext a; fin_cases a <;> rfl), read_whole h9 kp (by funext a; fin_cases a <;> rfl)]

/-- The scratch row ends as one whole piece, the last key. -/
theorem run_s : (bodyRun c i a2 h2 a3 h3 a4 h4 a5 h5 a6 h6 a7 h7 a8 h8 a9 h9 x w b w2 b2 kp).2.2.1
    = [⟨Rect.unit ![0, 0] ![1, 768] inb_S1x768_S1x768_0_0, shapeCast S1x768 (carry x w b) shapeCasts_S1x768_S1x768⟩] := by
  refine Eq.trans (b := [⟨Rect.unit ![0, 0] ![1, 768] inb_S1x768_S1x768_0_0, shapeCast S1x768 (carry
    (View.readAt (Elt F) a2.view (Rect.unit ![0, 0, 0] S1x4096x768.size inb_S1x4096x768_S1x4096x768_0_0_0).toLoadRect (h2.unread x))
    (View.readAt (Elt F) a3.view (Rect.unit ![0, 0] S768x1920.size inb_S768x1920_S768x1920_0_0).toLoadRect (h3.unread w))
    (View.readAt (Elt F) a4.view (Rect.unit ![0, 0] S1x1920.size inb_S1x1920_S1x1920_0_0).toLoadRect (h4.unread b)))
    shapeCasts_S1x768_S1x768⟩]) rfl ?_
  rw [read_whole h2 x (by funext a; fin_cases a <;> rfl), read_whole h3 w (by funext a; fin_cases a <;> rfl),
    read_whole h4 b (by funext a; fin_cases a <;> rfl)]

end Pieces

end Cert.KernelIdeal.Hand

end
-- ==== Proof.Spec.lean ====
/- The mathematics that both programs compute, on rows of extended reals: the distance between a query and the key
   before it, the retention of a row, and their weighted sum. -/
module

public import Idealize.ShloMosaic.Lib.Pointwise
public import Idealize.ShloMosaic.Lib.IdealHost

@[expose] public section

noncomputable section

namespace Cert.Spec

open Idealize.ShloMosaic

/-- The least norm that a row is divided by. -/
def eps : EReal := Ideal.ofBits .f32 0x322BCC77#32

/-- One half, as the programs write it. -/
def half : EReal := Ideal.ofBits .f32 0x3F000000#32

/-- A row's norm, not below `eps`. -/
def norm (v : Fin 768 → EReal) : EReal := max (Ideal.sqrt (∑ e, v e * v e)) eps

/-- Half of one minus the cosine between a query and a key. -/
def distance (q k : Fin 768 → EReal) : EReal := half * (1 - Ideal.div (∑ e, q e * k e) (norm q * norm k))

/-- The retention of a row: its hidden layer `h`, clipped below at zero, against the weights `v`, plus the bias, through
    the logistic. -/
def retention (h v : Fin 384 → EReal) (bias : EReal) : EReal := Ideal.logistic (∑ e, max (h e) 0 * v e + bias)

/-- The score: the distance and the retention, weighted. -/
def total (d r : EReal) : EReal := Ideal.ofBits .f32 0x3F333333#32 * d + Ideal.ofBits .f32 0x3E99999A#32 * r

/-- Whether a score exceeds one half, as a word. -/
def mask (s : EReal) : BitVec 32 := BitVec.setWidth 32 (BitVec.ofBool (decide (half < s)))

/-- A row through a linear layer. -/
def linear {n : ℕ} (x : Fin 768 → EReal) (w : Fin 768 → Fin n → EReal) (b : Fin n → EReal) (e : Fin n) : EReal :=
  ∑ k, x k * w k e + b e

/-- The score at position `s` of a sequence `x`: the distance between the query at `s` and the key at the position before,
    one at the first position; and the retention at `s`. -/
def seqScore (x : Fin 8192 → Fin 768 → EReal) (wq : Fin 768 → Fin 768 → EReal) (bq : Fin 768 → EReal)
    (wk : Fin 768 → Fin 768 → EReal) (bk : Fin 768 → EReal) (w1 : Fin 768 → Fin 384 → EReal) (b1 : Fin 384 → EReal)
    (w2 : Fin 384 → EReal) (b2 : EReal) (s : Fin 8192) : EReal :=
  total (if s.val = 0 then 1 else distance (linear (x s) wq bq) (linear (x ⟨s.val - 1, by omega⟩) wk bk))
    (retention (linear (x s) w1 b1) w2 b2)

end Cert.Spec

end
-- ==== Proof.Point.lean ====
/- What one call of the kernel body leaves in its outputs, element by element, over the extended reals. -/
module

public import proofs.«01_k».proof.Proof.Block
public import proofs.«01_k».proof.Proof.Spec
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Cert.KernelIdeal.Gen Cert.Spec

/-- Row `R` of a block's projection. -/
def row (x : Vec Ideal S1x4096x768 .f32) (w : Vec Ideal S768x1920 .bf16) (b : Vec Ideal S1x1920 .f32) (R : Fin 4096)
    (e : Fin 1920) : EReal := ∑ k, x (ix3 0 R k) * w (ix2 k e) + b (ix2 0 e)

/-- A projected row's query, key and hidden layer. -/
def qOf (y : Fin 1920 → EReal) (e : Fin 768) : EReal := y ⟨e.val, by omega⟩
@[inherit_doc qOf] def kOf (y : Fin 1920 → EReal) (e : Fin 768) : EReal := y ⟨768 + e.val, by omega⟩
@[inherit_doc qOf] def hOf (y : Fin 1920 → EReal) (e : Fin 384) : EReal := y ⟨1536 + e.val, by omega⟩

/-- The key before row `R` of a block: the carried row `kp` before the first. -/
def prevKey (x : Vec Ideal S1x4096x768 .f32) (w : Vec Ideal S768x1920 .bf16) (b : Vec Ideal S1x1920 .f32)
    (kp : Vec Ideal S1x768 .f32) (R : Fin 4096) : Fin 768 → EReal :=
  if R.val = 0 then fun e => kp (ix2 0 e) else kOf (row x w b ⟨R.val - 1, by omega⟩)

/-- The score of row `R` of the block numbered `j` in its sequence. -/
def blockScore (j : ℕ) (x : Vec Ideal S1x4096x768 .f32) (w : Vec Ideal S768x1920 .bf16) (b : Vec Ideal S1x1920 .f32)
    (w2 : Vec Ideal S1x384 .f32) (b2 : Vec Ideal S1x1 .f32) (kp : Vec Ideal S1x768 .f32) (R : Fin 4096) : EReal :=
  total (if j = 0 ∧ R.val = 0 then 1 else distance (qOf (row x w b R)) (prevKey x w b kp R))
    (retention (hOf (row x w b R)) (fun e => w2 (ix2 0 e)) (b2 (ix2 0 0)))

/-- In the sequence's first block the scores do not depend on the carried row. -/
theorem blockScore_first (x : Vec Ideal S1x4096x768 .f32) (w : Vec Ideal S768x1920 .bf16) (b : Vec Ideal S1x1920 .f32)
    (w2 : Vec Ideal S1x384 .f32) (b2 : Vec Ideal S1x1 .f32) (kp kp' : Vec Ideal S1x768 .f32) :
    blockScore 0 x w b w2 b2 kp = blockScore 0 x w b w2 b2 kp' := by
  funext R
  unfold blockScore prevKey
  by_cases hR : R.val = 0 <;> simp [hR]

/-- An entry of the three projections of a sub-block: a row of the block against a column of the weights, plus the bias. -/
theorem proj_apply (o : ℕ) (ho : S4096x768.Slices ![o, 0] S512x768) (x : Vec Ideal S1x4096x768 .f32)
    (w : Vec Ideal S768x1920 .bf16) (b : Vec Ideal S1x1920 .f32) (r : Fin 512) (e : Fin 1920) (hr : o + r.val < 4096) :
    proj o ho x w b (ix2 r e) = row x w b ⟨o + r.val, hr⟩ e := by
  pointwise [proj, row]

/-- The inner product of two rows. -/
theorem rowDot_apply (p q : FVec Ideal S512x768 .f32) (r : Fin 512) :
    rowDot p q (ix2 r 0) = ∑ e, p (ix2 r e) * q (ix2 r e) := by
  pointwise [rowDot]

/-- The query columns. -/
theorem qry_apply (y : FVec Ideal S512x1920 .f32) (r : Fin 512) (e : Fin 768) :
    qry y (ix2 r e) = qOf (fun e => y (ix2 r e)) e := by
  pointwise [qry, qOf]

/-- The key columns. -/
theorem key_apply (y : FVec Ideal S512x1920 .f32) (r : Fin 512) (e : Fin 768) :
    key y (ix2 r e) = kOf (fun e => y (ix2 r e)) e := by
  pointwise [key, kOf]

/-- The last row's key. -/
theorem lastKey_apply (y : FVec Ideal S512x1920 .f32) (e : Fin 768) :
    lastKey y (ix2 0 e) = kOf (fun e => y (ix2 511 e)) e := by
  pointwise [lastKey]
  exact key_apply y 511 e

/-- The second layer and its sigmoid at one row. -/
theorem retain_apply (w2 : Vec Ideal S1x384 .f32) (b2 : Vec Ideal S1x1 .f32) (y : FVec Ideal S512x1920 .f32) (r : Fin 512) :
    retain w2 b2 y (ix2 r 0) = retention (hOf fun e => y (ix2 r e)) (fun e => w2 (ix2 0 e)) (b2 (ix2 0 0)) := by
  pointwise [retain, retention, hOf]

/-- The test for a sub-block's first row. -/
theorem isFirst (r : Fin 512) : IntOp.cmpi .eq (BitVec.ofNat 32 r.val) 0#32 = BitVec.ofBool (decide (r.val = 0)) := by
  revert r; decide +kernel

/-- A selection by a decided bit. -/
theorem select_ofBool {α : Type} (p : Prop) [Decidable p] (a b : α) :
    Scalar.select (BitVec.ofBool (decide p)) a b = if p then a else b := by
  unfold Scalar.select
  by_cases h : p <;> simp [h]

/-- The key before row `r` of a sub-block. -/
def subPrev (kp : FVec Ideal S1x768 .f32) (y : FVec Ideal S512x1920 .f32) (r : Fin 512) : Fin 768 → EReal :=
  if r.val = 0 then fun e => kp (ix2 0 e) else kOf (fun e => y (ix2 ⟨r.val - 1, by omega⟩ e))

/-- The key before a row: the row above, or the carried key for the first row. -/
theorem shiftKey_apply (kp : FVec Ideal S1x768 .f32) (y : FVec Ideal S512x1920 .f32) (r : Fin 512) (e : Fin 768) :
    shiftKey kp y (ix2 r e) = subPrev kp y r e := by
  pointwise [shiftKey]
  rw [isFirst, select_ofBool, subPrev]
  split_ifs with h
  · rfl
  · rw [key_apply]
    have : (r.val + 512 - 1) % 512 = r.val - 1 := by omega
    simp only [this]

/-- The norm of the key before a row, not yet clamped. -/
theorem shiftNorm_apply (kp : FVec Ideal S1x768 .f32) (y : FVec Ideal S512x1920 .f32) (r : Fin 512) :
    shiftNorm kp y (ix2 r 0) = Ideal.sqrt (∑ e, subPrev kp y r e * subPrev kp y r e) := by
  pointwise [shiftNorm]
  rw [isFirst, select_ofBool, subPrev]
  split_ifs with h
  · rfl
  · rw [rowDot_apply]
    have : (r.val + 512 - 1) % 512 = r.val - 1 := by omega
    simp only [this, key_apply]

/-- The distance of a row's query from the key before it. -/
theorem dist_apply (kp : FVec Ideal S1x768 .f32) (y : FVec Ideal S512x1920 .f32) (r : Fin 512) :
    dist kp y (ix2 r 0) = distance (qOf fun e => y (ix2 r e)) (subPrev kp y r) := by
  pointwise [dist]
  simp only [rowDot_apply, shiftKey_apply, shiftNorm_apply, qry_apply]
  rfl

/-- The weighted sum at one row. -/
theorem score_apply (d s : FVec Ideal S512x1 .f32) (r : Fin 512) : score d s (ix2 r 0) = total (d (ix2 r 0)) (s (ix2 r 0)) := by
  pointwise [score, total]

/-- The first sub-block's distances: one at the first row of a sequence. -/
theorem distFirst_apply (j : ℕ) (hj : j < 2) (kp : FVec Ideal S1x768 .f32) (y : FVec Ideal S512x1920 .f32) (r : Fin 512) :
    distFirst (BitVec.ofNat 32 j) kp y (ix2 r 0) = if j = 0 ∧ r.val = 0 then 1 else dist kp y (ix2 r 0) := by
  pointwise [distFirst]
  rw [isFirst]
  have hb : Scalar.cmpi .eq (BitVec.ofNat 32 j) 0#32 = BitVec.ofBool (decide (j = 0)) := by
    interval_cases j <;> rfl
  rw [hb]
  unfold Scalar.select
  by_cases h0 : j = 0 <;> by_cases h1 : r.val = 0 <;> simp [h0, h1, IntOp.andi]

/-- The scores as stored. -/
theorem storeF_apply (f : FVec Ideal S512x1 .f32) (r : Fin 512) : storeF f (ix3 0 r 0) = f (ix2 r 0) := by
  pointwise [storeF]

/-- The masks as stored. -/
theorem storeM_apply (f : FVec Ideal S512x1 .f32) (r : Fin 512) : storeM f (ix3 0 r 0) = mask (f (ix2 r 0)) := by
  pointwise [storeM, mask, half]

variable (x : Vec Ideal S1x4096x768 .f32) (w : Vec Ideal S768x1920 .bf16) (b : Vec Ideal S1x1920 .f32)
    (w2 : Vec Ideal S1x384 .f32) (b2 : Vec Ideal S1x1 .f32) (kp : Vec Ideal S1x768 .f32)

/-- The first sub-block's scores are the block's first 512. -/
theorem score0_apply (j : ℕ) (hj : j < 2) (r : Fin 512) :
    score0 (BitVec.ofNat 32 j) x w b w2 b2 kp (ix2 r 0) = blockScore j x w b w2 b2 kp ⟨r.val, by omega⟩ := by
  have hp : ∀ (r : Fin 512) e, proj 0 slices_S4096x768_o0_0_S512x768 x w b (ix2 r e) = row x w b ⟨r.val, by omega⟩ e := by
    intro r e
    rw [proj_apply 0 _ x w b r e (by omega)]
    simp only [Nat.zero_add]
  rw [score0, score_apply, distFirst_apply j hj, retain_apply, dist_apply]
  simp only [hp, subPrev, blockScore, prevKey]

/-- The scores of a later sub-block are the block's, from its first row on. -/
theorem scoreAt_apply (j o' : ℕ) (ho' : S4096x768.Slices ![o', 0] S512x768) (o : ℕ) (ho : S4096x768.Slices ![o, 0] S512x768)
    (h : o = o' + 512) (hN : o + 512 ≤ 4096) (r : Fin 512) :
    scoreAt o' ho' o ho x w b w2 b2 (ix2 r 0) = blockScore j x w b w2 b2 kp ⟨o + r.val, by omega⟩ := by
  have hp : ∀ (r : Fin 512) e, proj o ho x w b (ix2 r e) = row x w b ⟨o + r.val, by omega⟩ e :=
    fun r e => proj_apply o ho x w b r e (by omega)
  have hp' : ∀ (r : Fin 512) e, proj o' ho' x w b (ix2 r e) = row x w b ⟨o' + r.val, by omega⟩ e :=
    fun r e => proj_apply o' ho' x w b r e (by omega)
  have hk : subPrev (lastKey (proj o' ho' x w b)) (proj o ho x w b) r = prevKey x w b kp ⟨o + r.val, by omega⟩ := by
    unfold subPrev prevKey
    have h0 : ¬ o + r.val = 0 := by omega
    simp only [h0, if_false, lastKey_apply, hp, hp']
    split_ifs with hr
    · have : o' + (511 : Fin 512).val = o + r.val - 1 := by show o' + 511 = _; omega
      simp only [this]
    · have : o + (r.val - 1) = o + r.val - 1 := by omega
      simp only [this]
  rw [scoreAt, score_apply, retain_apply, dist_apply, hk, blockScore,
    if_neg (show ¬(j = 0 ∧ o + r.val = 0) by omega)]
  simp only [hp]

/-- A property of the eight pieces from one of a later sub-block and one of the first. -/
theorem pieces_agree {e : EltTy} (st : FVec Ideal S512x1 .f32 → (S1x512x1.Idx → Elt Ideal e)) (g : EReal → Elt Ideal e)
    (hst : ∀ f r, st f (ix3 0 r 0) = g (f (ix2 r 0))) (j : ℕ) (hj : j < 2) :
    ∀ p ∈ pieces (BitVec.ofNat 32 j) x w b w2 b2 kp st, ∀ z : p.1.shape.Idx,
      p.2 z = g (blockScore j x w b w2 b2 kp (p.1.emb z (1 : Fin 3))) := by
  have key : ∀ (o : ℕ) (inb : ∀ a : Fin 3, ![0, o, 0] a + ![1, 512, 1] a ≤ S1x4096x1.size a) (f : FVec Ideal S512x1 .f32)
      (ho : o + 512 ≤ 4096) (hf : ∀ r : Fin 512, f (ix2 r 0) = blockScore j x w b w2 b2 kp ⟨o + r.val, by omega⟩)
      (z : S1x512x1.Idx), st f z = g (blockScore j x w b w2 b2 kp ((Rect.unit (s := S1x4096x1) ![0, o, 0] ![1, 512, 1] inb).emb z (1 : Fin 3))) := by
    intro o inb f ho hf z
    obtain ⟨u, r, v, rfl⟩ : ∃ (u : Fin 1) (r : Fin 512) (v : Fin 1), z = ix3 u r v := ⟨z 0, z 1, z 2, eq_ix3 z⟩
    obtain rfl : u = 0 := Subsingleton.elim _ _
    obtain rfl : v = 0 := Subsingleton.elim _ _
    rw [hst, hf]
    congr 2
    apply Fin.ext
    show o + r.val = o + 1 * r.val
    omega
  intro p hp
  simp only [pieces, List.mem_cons, List.not_mem_nil, or_false] at hp
  rcases hp with rfl | rfl | rfl | rfl | rfl | rfl | rfl | rfl
  · exact key 3584 inb_S1x4096x1_S1x512x1_0_3584_0 _ (by omega) fun r => scoreAt_apply x w b w2 b2 kp j _ _ _ _ (by omega) (by omega) r
  · exact key 3072 inb_S1x4096x1_S1x512x1_0_3072_0 _ (by omega) fun r => scoreAt_apply x w b w2 b2 kp j _ _ _ _ (by omega) (by omega) r
  · exact key 2560 inb_S1x4096x1_S1x512x1_0_2560_0 _ (by omega) fun r => scoreAt_apply x w b w2 b2 kp j _ _ _ _ (by omega) (by omega) r
  · exact key 2048 inb_S1x4096x1_S1x512x1_0_2048_0 _ (by omega) fun r => scoreAt_apply x w b w2 b2 kp j _ _ _ _ (by omega) (by omega) r
  · exact key 1536 inb_S1x4096x1_S1x512x1_0_1536_0 _ (by omega) fun r => scoreAt_apply x w b w2 b2 kp j _ _ _ _ (by omega) (by omega) r
  · exact key 1024 inb_S1x4096x1_S1x512x1_0_1024_0 _ (by omega) fun r => scoreAt_apply x w b w2 b2 kp j _ _ _ _ (by omega) (by omega) r
  · exact key 512 inb_S1x4096x1_S1x512x1_0_512_0 _ (by omega) fun r => scoreAt_apply x w b w2 b2 kp j _ _ _ _ (by omega) (by omega) r
  · refine key 0 inb_S1x4096x1_S1x512x1_0_0_0 _ (by omega) fun r => (score0_apply x w b w2 b2 kp j hj r).trans ?_
    simp only [Nat.zero_add]

/-- The eight pieces cover the output block. -/
theorem pieces_cover {e : EltTy} (st : FVec Ideal S512x1 .f32 → (S1x512x1.Idx → Elt Ideal e)) (arg1 : BitVec 32) (y : S1x4096x1.Idx) :
    ∃ p ∈ pieces arg1 x w b w2 b2 kp st, y ∈ p.1.set :=
  View.cover_of_tiledL (pieces arg1 x w b w2 b2 kp st) S1x512x1.size (by sl_kernel_rfl) y

/-- The first output block after the body: every row's score. -/
def outF (j : ℕ) : Vec Ideal S1x4096x1 .f32 := fun y => blockScore j x w b w2 b2 kp (y (1 : Fin 3))

/-- The second output block after the body: every row's mask. -/
def outM (j : ℕ) : Vec Ideal S1x4096x1 .i32 := fun y => mask (blockScore j x w b w2 b2 kp (y (1 : Fin 3)))

/-- Whatever a view held, the score pieces written over it read back as `outF`. -/
theorem read_f {κ : Kind} {sp : Space} (v : View sig κ sp S1x4096x1 .f32) (f : v.ty.Contents (Elt Ideal)) (j : ℕ) (hj : j < 2) :
    v.read (Elt Ideal) (v.writes (Elt Ideal) f (pieces (BitVec.ofNat 32 j) x w b w2 b2 kp storeF)) = outF x w b w2 b2 kp j :=
  funext fun y => View.read_writes_apply_of_pieces v f (outF x w b w2 b2 kp j) _
    (pieces_agree x w b w2 b2 kp (e := .f32) storeF id storeF_apply j hj) y (pieces_cover x w b w2 b2 kp (e := .f32) storeF (BitVec.ofNat 32 j) y)

/-- Likewise the mask pieces read back as `outM`. -/
theorem read_m {κ : Kind} {sp : Space} (v : View sig κ sp S1x4096x1 .i32) (f : v.ty.Contents (Elt Ideal)) (j : ℕ) (hj : j < 2) :
    v.read (Elt Ideal) (v.writes (Elt Ideal) f (pieces (BitVec.ofNat 32 j) x w b w2 b2 kp storeM)) = outM x w b w2 b2 kp j :=
  funext fun y => View.read_writes_apply_of_pieces v f (outM x w b w2 b2 kp j) _
    (pieces_agree x w b w2 b2 kp (e := .i32) storeM mask storeM_apply j hj) y (pieces_cover x w b w2 b2 kp (e := .i32) storeM (BitVec.ofNat 32 j) y)

/-- Whatever a view held, the carried row written over it whole reads back. -/
theorem read_carry {κ : Kind} {sp : Space} (v : View sig κ sp S1x768 .f32) (f : v.ty.Contents (Elt Ideal)) :
    v.read (Elt Ideal) (v.writes (Elt Ideal) f [⟨Rect.unit ![0, 0] ![1, 768] inb_S1x768_S1x768_0_0,
      shapeCast S1x768 (carry x w b) shapeCasts_S1x768_S1x768⟩]) = carry x w b := by
  rw [shapeCast_self]
  generalize carry x w b = p
  funext y
  exact View.read_writes_cons_unit_of_mem v f (off := ![0, 0]) (size := ![1, 768]) inb_S1x768_S1x768_0_0 p [] y y rfl
    fun a => by fin_cases a <;> exact (Nat.zero_add _).symm

/-- The carried row after the body is the key of the block's last row. -/
theorem carry_apply (e : Fin 768) : carry x w b (ix2 0 e) = kOf (row x w b 4095) e := by
  rw [carry, lastKey_apply]
  simp only [proj_apply 3584 _ x w b 511 _ (by decide)]
  rfl

end Cert.KernelIdeal.Hand

end
-- ==== Proof.Sound.lean ====
/- The kernel's pipeline over the extended reals: what every grid point leaves in its output blocks and in the scratch
   row, the body's triple at every point, and the run of the whole program with its frame. -/
module

public import proofs.«01_k».proof.Proof.Point
public import proofs.«01_k».proof.Proof.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Spec

local notation "𝕄" => MT nD τ sig Unit (Elt Ideal) ℕ (UR sig nD τ) ℕ

variable (m : (ℓ : Loc nD τ sig) → Buf (Elt Ideal) ℓ) (ρ : Dev nD → PrngReg)

/-- The input blocks of point `t`, at the body's types. -/
def inX (c : Dev nD) (t : Fin cfg0.N) : Vec Ideal S1x4096x768 .f32 := iblk m c 0 t
@[inherit_doc inX] def inW (c : Dev nD) (t : Fin cfg0.N) : Vec Ideal S768x1920 .bf16 := iblk m c 1 t
@[inherit_doc inX] def inB (c : Dev nD) (t : Fin cfg0.N) : Vec Ideal S1x1920 .f32 := iblk m c 2 t
@[inherit_doc inX] def inW2 (c : Dev nD) (t : Fin cfg0.N) : Vec Ideal S1x384 .f32 := iblk m c 3 t
@[inherit_doc inX] def inB2 (c : Dev nD) (t : Fin cfg0.N) : Vec Ideal S1x1 .f32 := iblk m c 4 t

/-- The row that point `t` leaves in the scratch. -/
def left (c : Dev nD) (t : Fin cfg0.N) : Vec Ideal S1x768 .f32 := carry (inX m c t) (inW m c t) (inB m c t)

/-- The point before `t` (the first point is its own). -/
def pred (t : Fin cfg0.N) : Fin cfg0.N := ⟨t.val - 1, lt_of_le_of_lt (Nat.sub_le _ _) t.isLt⟩

/-- The scores and the masks of point `t`'s block. -/
def scores (c : Dev nD) (t : Fin cfg0.N) : Vec Ideal S1x4096x1 .f32 :=
  outF (inX m c t) (inW m c t) (inB m c t) (inW2 m c t) (inB2 m c t) (left m c (pred t)) (t.val % 2)
@[inherit_doc scores] def masks (c : Dev nD) (t : Fin cfg0.N) : Vec Ideal S1x4096x1 .i32 :=
  outM (inX m c t) (inW m c t) (inB m c t) (inW2 m c t) (inB2 m c t) (left m c (pred t)) (t.val % 2)

/-- The invariant before position `n`: at the start the region's own, later the scratch row at what the point before left. -/
def inv (c : Dev nD) : (n : ℕ) → n ≤ cfg0.N → sProp 𝕄
  | 0, _ => Pipeline.ΦA spec0 c
  | n + 1, hn => iprop(owns (c : Thread nD τ) scr fullShare (left m c ⟨n, hn⟩) ∗ (∃ r, prngReg c r))

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => scores m c t
    | ⟨6, _⟩ => masks m c t
  Φ t := inv m c t.val (Nat.le_of_lt_succ t.isLt)
  q _ := fullShare
  owed _ := 0

/-- The arrays of the proof data are those the region finds. -/
theorem A_eq (c : Dev nD) (w : Fin cfg0.W) : (dats m 0 c).A w = V m c (Pipeline.arrRef spec0 w) := by
  dsimp only [dats]

/-- The body leaves this input window at its block. -/
theorem after_0 (c : Dev nD) (t : Fin cfg0.N) : (dats m 0 c).after 0 t = inX m c t := by dsimp only [dats, inX]
/-- The body leaves this input window at its block. -/
theorem after_1 (c : Dev nD) (t : Fin cfg0.N) : (dats m 0 c).after 1 t = inW m c t := by dsimp only [dats, inW]
/-- The body leaves this input window at its block. -/
theorem after_2 (c : Dev nD) (t : Fin cfg0.N) : (dats m 0 c).after 2 t = inB m c t := by dsimp only [dats, inB]
/-- The body leaves this input window at its block. -/
theorem after_3 (c : Dev nD) (t : Fin cfg0.N) : (dats m 0 c).after 3 t = inW2 m c t := by dsimp only [dats, inW2]
/-- The body leaves this input window at its block. -/
theorem after_4 (c : Dev nD) (t : Fin cfg0.N) : (dats m 0 c).after 4 t = inB2 m c t := by dsimp only [dats, inB2]
/-- The body leaves the scores in the first result window. -/
theorem after_5 (c : Dev nD) (t : Fin cfg0.N) : (dats m 0 c).after 5 t = scores m c t := by dsimp only [dats]
/-- The body leaves the masks in the second result window. -/
theorem after_6 (c : Dev nD) (t : Fin cfg0.N) : (dats m 0 c).after 6 t = masks m c t := by dsimp only [dats]

/-- The body finds this input window at its block. -/
theorem before_0 (c : Dev nD) (t : Fin cfg0.N) (d) : (dats m 0 c).before 0 t d = inX m c t :=
  before0_0_of m (dats m 0 c) (A_eq m c 0) (after_0 m c) t d
/-- The body finds this input window at its block. -/
theorem before_1 (c : Dev nD) (t : Fin cfg0.N) (d) : (dats m 0 c).before 1 t d = inW m c t :=
  before0_1_of m (dats m 0 c) (A_eq m c 1) (after_1 m c) t d
/-- The body finds this input window at its block. -/
theorem before_2 (c : Dev nD) (t : Fin cfg0.N) (d) : (dats m 0 c).before 2 t d = inB m c t :=
  before0_2_of m (dats m 0 c) (A_eq m c 2) (after_2 m c) t d
/-- The body finds this input window at its block. -/
theorem before_3 (c : Dev nD) (t : Fin cfg0.N) (d) : (dats m 0 c).before 3 t d = inW2 m c t :=
  before0_3_of m (dats m 0 c) (A_eq m c 3) (after_3 m c) t d
/-- The body finds this input window at its block. -/
theorem before_4 (c : Dev nD) (t : Fin cfg0.N) (d) : (dats m 0 c).before 4 t d = inB2 m c t :=
  before0_4_of m (dats m 0 c) (A_eq m c 4) (after_4 m c) t d

/-- A point's second coordinate. -/
theorem coord_one (t : Fin cfg0.N) : (grid0.coords t 1).val = t.val % 2 :=
  (Pipeline.Grid.coords_val (S := 1) t 1 (by decide) rfl).trans (by simp)

/-- What the body of point `t` is called with, the scratch row apart. -/
def stagesBefore (c : Dev nD) (t : Fin cfg0.N) : sProp 𝕄 :=
  iprop((∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What the body of point `t` leaves in the windows' buffers. -/
def stagesAfter (c : Dev nD) (t : Fin cfg0.N) : sProp 𝕄 :=
  iprop(owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

/-- What is left of the invariant while the scratch row is out, and what the core owes. -/
def beside (c : Dev nD) (t : Fin cfg0.N) : sProp 𝕄 :=
  iprop((∃ r, prngReg c r) ∗ (dats m 0 c).owesAt () t.castSucc)

set_option maxHeartbeats 2000000 in
/-- The body at point `t` with the scratch row at `d`, for any `d` that gives the block the scores of `scores`. -/
theorem body_from (c : Dev nD) (t : Fin cfg0.N) (d : Vec Ideal S1x768 .f32)
    (hd : blockScore (t.val % 2) (inX m c t) (inW m c t) (inB m c t) (inW2 m c t) (inB2 m c t) d
      = blockScore (t.val % 2) (inX m c t) (inW m c t) (inB m c t) (inW2 m c t) (inB2 m c t) (left m c (pred t))) :
    iprop(owns (c : Thread nD τ) scr fullShare d ∗ beside m c t ∗ stagesBefore m c t)
      ⊢ wp frame (wpE (defs₀ (F := Ideal)) Variants.none c none) Set.univ (bodyAt0 t) (fun _ =>
          iprop(owns (c : Thread nD τ) scr fullShare (left m c t) ∗ beside m c t ∗ stagesAfter m c t)) := by
  have hj : (grid0.coords t 1).val < 2 := by rw [coord_one]; omega
  unfold stagesBefore stagesAfter bodyAt0
  simp only [before_0, before_1, before_2, before_3, before_4]
  rw [after_0, after_1, after_2, after_3, after_4, after_5, after_6]
  iintro ⟨HS, HB, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ _ _
    (inX m c t) (inW m c t) (inB m c t) (inW2 m c t) (inB2 m c t) d).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, ⟨%es, HS⟩⟩
  isplitl [HS]
  · unfold owns; iexists _; isplitr
    swap; · iexact HS
    ipureintro
    rw [run_s]
    exact read_carry _ _ _ _ _
  isplitl [HB]; · iexact HB
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [run_f, read_f _ _ _ _ _ _ _ _ _ hj, coord_one]
    unfold scores outF; rw [hd]
  unfold owns; iexists _; isplitr
  swap; · iexact H6
  ipureintro
  rw [run_m, read_m _ _ _ _ _ _ _ _ _ hj, coord_one]
  unfold masks outM; rw [hd]

/-- What the body is called with at point `t`, and what it gives back. -/
def bodyPre (c : Dev nD) (t : Fin cfg0.N) : sProp 𝕄 :=
  iprop((dats m 0 c).Φ t.castSucc ∗ (dats m 0 c).owesAt () t.castSucc ∗ stagesBefore m c t)
@[inherit_doc bodyPre] def bodyPost (c : Dev nD) (t : Fin cfg0.N) : sProp 𝕄 :=
  iprop((dats m 0 c).Φ t.succ ∗ (dats m 0 c).owesAt () t.succ ∗ stagesAfter m c t)

/-- Before any point the scratch row holds something that gives the block its scores. -/
theorem inv_open (c : Dev nD) (t : Fin cfg0.N) : (dats m 0 c).Φ t.castSucc ⊢
    iprop(∃ d, ⌜blockScore (t.val % 2) (inX m c t) (inW m c t) (inB m c t) (inW2 m c t) (inB2 m c t) d
      = blockScore (t.val % 2) (inX m c t) (inW m c t) (inB m c t) (inW2 m c t) (inB2 m c t) (left m c (pred t))⌝
      ∗ owns (c : Thread nD τ) scr fullShare d ∗ (∃ r, prngReg c r)) := by
  rw [show (dats m 0 c).Φ t.castSucc = inv m c t.val (Nat.le_of_lt t.isLt) by
    dsimp only [dats]; exact Pipeline.Dat.Φ_castSucc (inv m c) t]
  obtain ⟨n, hn⟩ := t
  cases n with
  | zero =>
    show Pipeline.ΦA spec0 c ⊢ _
    rw [start_eq]
    iintro ⟨⟨%d, HS⟩, Hg⟩
    iexists d
    isplitr
    · ipureintro; exact blockScore_first _ _ _ _ _ _ _
    isplitl [HS]; · iexact HS
    iexact Hg
  | succ n =>
    show iprop(owns (c : Thread nD τ) scr fullShare (left m c ⟨n, _⟩) ∗ (∃ r, prngReg c r)) ⊢ _
    iintro ⟨HS, Hg⟩
    iexists (left m c ⟨n, by omega⟩)
    isplitr
    · ipureintro; rfl
    isplitl [HS]; · iexact HS
    iexact Hg

set_option maxHeartbeats 1000000 in
/-- The body's triple at every point. -/
theorem sound_body (c : Dev nD) (t : Fin cfg0.N) :
    bodyPre m c t ⊢ wp frame (wpE (defs₀ (F := Ideal)) Variants.none c none) Set.univ (bodyAt0 t) (fun _ => bodyPost m c t) := by
  have hpost : iprop(owns (c : Thread nD τ) scr fullShare (left m c t) ∗ beside m c t ∗ stagesAfter m c t) ⊢ bodyPost m c t := by
    unfold bodyPost beside
    rw [show (dats m 0 c).owesAt () t.succ = (dats m 0 c).owesAt () t.castSucc from rfl,
      show (dats m 0 c).Φ t.succ = iprop(owns (c : Thread nD τ) scr fullShare (left m c t) ∗ (∃ r, prngReg c r)) from rfl]
    iintro ⟨HS, ⟨Hg, Ho⟩, HW⟩
    isplitl [HS Hg]
    · isplitl [HS]; · iexact HS
      iexact Hg
    isplitl [Ho]; · iexact Ho
    iexact HW
  have hpre : bodyPre m c t ⊢ iprop(∃ d, ⌜blockScore (t.val % 2) (inX m c t) (inW m c t) (inB m c t) (inW2 m c t) (inB2 m c t) d
      = blockScore (t.val % 2) (inX m c t) (inW m c t) (inB m c t) (inW2 m c t) (inB2 m c t) (left m c (pred t))⌝
      ∗ owns (c : Thread nD τ) scr fullShare d ∗ beside m c t ∗ stagesBefore m c t) := by
    unfold bodyPre beside
    refine (sep_mono (inv_open m c t) .rfl).trans ?_
    iintro ⟨⟨%d, %hd, HS, Hg⟩, Ho, HW⟩
    iexists d
    isplitr
    · ipureintro; exact hd
    isplitl [HS]; · iexact HS
    isplitl [Hg Ho]
    · isplitl [Hg]; · iexact Hg
      iexact Ho
    iexact HW
  refine hpre.trans ?_
  iintro ⟨%d, %hd, H⟩
  iapply ((body_from m c t d hd).trans (Idealize.SL.Sem.wp_mono _ _ _ fun _ => hpost))
  iexact H

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The region's start is the invariant before the first point, -/
theorem hin (c : Dev nD) : Pipeline.ΦA spec0 c ⊢ (dats m 0 c).Φ 0 :=
  show Pipeline.ΦA spec0 c ⊢ Pipeline.ΦA spec0 c from .rfl

/-- and after the last point the invariant gives it back. -/
theorem hout (c : Dev nD) : (dats m 0 c).Φ (Fin.last cfg0.N) ⊢ Pipeline.ΦA spec0 c := by
  rw [start_eq]
  show iprop(owns (c : Thread nD τ) scr fullShare (left m c ⟨7, _⟩) ∗ (∃ r, prngReg c r)) ⊢ _
  iintro ⟨HS, Hg⟩
  isplitl [HS]
  · iexists _; iexact HS
  iexact Hg

set_option backward.isDefEq.respectTransparency.types false in
/-- The run: every execution ends, with every array of the pipeline as the proof data computes it, every other buffer as
    the region found it, and every semaphore counter at zero. -/
theorem run : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.Arrays.lean ====
/- The kernel's result arrays, element by element, over the extended reals, in terms of its arguments. -/
module

public import proofs.«01_k».proof.Proof.Sound
public import Idealize.ShloMosaic.Lib.Pipeline.ValueKit
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic
open Cert.KernelIdeal.Gen Cert.Spec

variable (m : (ℓ : Loc nD τ sig) → Buf (Elt Ideal) ℓ)

/-! ## The blocks of the windows -/

/-- The sequence and the half of it that a point's blocks hold, for the windows that move; -/
theorem index_0 : ∀ t : Fin cfg0.N, win0_0.index t = ![t.val / 2, t.val % 2, 0] := (by decide +kernel : ∀ t : Fin grid0.N, _)
/-- The block of the first result at point `t`: sequence `t / 2`, half `t % 2`. -/
theorem index_5 : ∀ t : Fin cfg0.N, win0_5.index t = ![t.val / 2, t.val % 2, 0] := (by decide +kernel : ∀ t : Fin grid0.N, _)
/-- The block of the second result at point `t`: the same. -/
theorem index_6 : ∀ t : Fin cfg0.N, win0_6.index t = ![t.val / 2, t.val % 2, 0] := (by decide +kernel : ∀ t : Fin grid0.N, _)
/-- and the one block of each window that does not. -/
theorem index_1 : ∀ t : Fin cfg0.N, win0_1.index t = ![0, 0] := (by decide +kernel : ∀ t : Fin grid0.N, _)
/-- The biases are one block, the same at every point. -/
theorem index_2 : ∀ t : Fin cfg0.N, win0_2.index t = ![0, 0] := (by decide +kernel : ∀ t : Fin grid0.N, _)
/-- The second layer's weights are one block, the same at every point. -/
theorem index_3 : ∀ t : Fin cfg0.N, win0_3.index t = ![0, 0] := (by decide +kernel : ∀ t : Fin grid0.N, _)
/-- The second layer's bias is one block, the same at every point. -/
theorem index_4 : ∀ t : Fin cfg0.N, win0_4.index t = ![0, 0] := (by decide +kernel : ∀ t : Fin grid0.N, _)

/-- The sequence of a point, and the position in it of row `R` of the point's block. -/
def seqOf (t : Fin cfg0.N) : Fin 4 := ⟨t.val / 2, by have : cfg0.N = 8 := N_0; omega⟩
@[inherit_doc seqOf] def posOf (t : Fin cfg0.N) (R : Fin 4096) : Fin 8192 := ⟨t.val % 2 * 4096 + R.val, by omega⟩

/-- A point's first input block is its half of its sequence. -/
theorem inX_apply (c : Dev nD) (t : Fin cfg0.N) (R : Fin 4096) (k : Fin 768) :
    inX m c t (ix3 0 R k) = m ((c.tc : Thread nD τ).loc main_arg0) (ix3 (seqOf t) (posOf t R) k) := by
  unfold inX
  blk_simp [iblk]
  rw [V_main_arg0]
  have h : (win0_0.blk t).view.emb (ix3 0 R k) = ix3 (seqOf t) (posOf t R) k := by blk_ext [index_0, seqOf, posOf]
  rw [h]

/-- The weights' column `e`: of the queries', the keys' or the hidden layer's weights. -/
theorem inW_apply (c : Dev nD) (t : Fin cfg0.N) (k : Fin 768) (e : Fin 1920) :
    inW m c t (ix2 k e) = if h : e.val < 768 then m ((c.tc : Thread nD τ).loc main_arg1) (ix2 k ⟨e.val, h⟩)
      else if h' : e.val - 768 < 768 then m ((c.tc : Thread nD τ).loc main_arg3) (ix2 k ⟨e.val - 768, h'⟩)
      else m ((c.tc : Thread nD τ).loc main_arg5) (ix2 k ⟨e.val - 768 - 768, by omega⟩) := by
  unfold inW
  blk_simp [iblk]
  have h : (win0_1.blk t).view.emb (ix2 k e) = ix2 k e := by blk_ext [index_1]
  rw [h]
  unfold V
  after_reads_at
  after_reads_simp

/-- The biases' column `e`, likewise. -/
theorem inB_apply (c : Dev nD) (t : Fin cfg0.N) (e : Fin 1920) :
    inB m c t (ix2 0 e) = if h : e.val < 768 then m ((c.tc : Thread nD τ).loc main_arg2) (ix1 ⟨e.val, h⟩)
      else if h' : e.val - 768 < 768 then m ((c.tc : Thread nD τ).loc main_arg4) (ix1 ⟨e.val - 768, h'⟩)
      else m ((c.tc : Thread nD τ).loc main_arg6) (ix1 ⟨e.val - 768 - 768, by omega⟩) := by
  unfold inB
  blk_simp [iblk]
  have h : (win0_2.blk t).view.emb (ix2 0 e) = ix2 0 e := by blk_ext [index_2]
  rw [h]
  unfold V
  after_reads_at
  after_reads_simp

/-- The retention's weights, as a row; -/
theorem inW2_apply (c : Dev nD) (t : Fin cfg0.N) (e : Fin 384) :
    inW2 m c t (ix2 0 e) = m ((c.tc : Thread nD τ).loc main_arg7) (ix2 e 0) := by
  unfold inW2
  blk_simp [iblk]
  have h : (win0_3.blk t).view.emb (ix2 0 e) = ix2 0 e := by blk_ext [index_3]
  rw [h]
  unfold V
  after_reads_at

/-- and its bias. -/
theorem inB2_apply (c : Dev nD) (t : Fin cfg0.N) :
    inB2 m c t (ix2 0 0) = m ((c.tc : Thread nD τ).loc main_arg8) (ix1 0) := by
  unfold inB2
  blk_simp [iblk]
  have h : (win0_4.blk t).view.emb (ix2 0 0) = ix2 0 0 := by blk_ext [index_4]
  rw [h]
  unfold V
  after_reads_at

/-! ## The scores of a block are the sequence's -/

/-- Position `s` of sequence `q` of the first argument. -/
def tokens (c : Dev nD) (q : Fin 4) (s : Fin 8192) (k : Fin 768) : EReal := m ((c.tc : Thread nD τ).loc main_arg0) (ix3 q s k)

/-- The query, the key and the hidden layer at a position. -/
def queryAt (c : Dev nD) (q : Fin 4) (s : Fin 8192) : Fin 768 → EReal :=
  linear (tokens m c q s) (fun k e => m ((c.tc : Thread nD τ).loc main_arg1) (ix2 k e)) (fun e => m ((c.tc : Thread nD τ).loc main_arg2) (ix1 e))
@[inherit_doc queryAt] def keyAt (c : Dev nD) (q : Fin 4) (s : Fin 8192) : Fin 768 → EReal :=
  linear (tokens m c q s) (fun k e => m ((c.tc : Thread nD τ).loc main_arg3) (ix2 k e)) (fun e => m ((c.tc : Thread nD τ).loc main_arg4) (ix1 e))
@[inherit_doc queryAt] def hiddenAt (c : Dev nD) (q : Fin 4) (s : Fin 8192) : Fin 384 → EReal :=
  linear (tokens m c q s) (fun k e => m ((c.tc : Thread nD τ).loc main_arg5) (ix2 k e)) (fun e => m ((c.tc : Thread nD τ).loc main_arg6) (ix1 e))

/-- The score of the kernel's arguments at position `s` of sequence `q`. -/
def value (c : Dev nD) (q : Fin 4) (s : Fin 8192) : EReal :=
  seqScore (tokens m c q)
    (fun k e => m ((c.tc : Thread nD τ).loc main_arg1) (ix2 k e)) (fun e => m ((c.tc : Thread nD τ).loc main_arg2) (ix1 e))
    (fun k e => m ((c.tc : Thread nD τ).loc main_arg3) (ix2 k e)) (fun e => m ((c.tc : Thread nD τ).loc main_arg4) (ix1 e))
    (fun k e => m ((c.tc : Thread nD τ).loc main_arg5) (ix2 k e)) (fun e => m ((c.tc : Thread nD τ).loc main_arg6) (ix1 e))
    (fun e => m ((c.tc : Thread nD τ).loc main_arg7) (ix2 e 0)) (m ((c.tc : Thread nD τ).loc main_arg8) (ix1 0)) s

/-- The projection of a block's row at its position. -/
theorem row_query (c : Dev nD) (t : Fin cfg0.N) (R : Fin 4096) :
    qOf (row (inX m c t) (inW m c t) (inB m c t) R) = queryAt m c (seqOf t) (posOf t R) := by
  funext e
  unfold qOf row queryAt linear tokens
  simp only [inX_apply, inW_apply, inB_apply, e.isLt, dif_pos]

/-- A row of a block's keys is the key of that position of the sequence. -/
theorem row_key (c : Dev nD) (t : Fin cfg0.N) (R : Fin 4096) :
    kOf (row (inX m c t) (inW m c t) (inB m c t) R) = keyAt m c (seqOf t) (posOf t R) := by
  funext e
  unfold kOf row keyAt linear tokens
  have h1 : ¬ 768 + e.val < 768 := by omega
  simp only [inX_apply, inW_apply, inB_apply, h1, dif_neg, not_false_eq_true, Nat.add_sub_cancel_left, e.isLt, dif_pos, Fin.eta]

/-- A row of a block's hidden layer, before the rectifier, is that of the position of the sequence. -/
theorem row_hidden (c : Dev nD) (t : Fin cfg0.N) (R : Fin 4096) :
    hOf (row (inX m c t) (inW m c t) (inB m c t) R) = hiddenAt m c (seqOf t) (posOf t R) := by
  funext e
  unfold hOf row hiddenAt linear tokens
  have h1 : ¬ 1536 + e.val < 768 := by omega
  have h2 : ¬ 1536 + e.val - 768 < 768 := by omega
  have h3 : 1536 + e.val - 768 - 768 = e.val := by omega
  simp only [inX_apply, inW_apply, inB_apply, h1, h2, dif_neg, not_false_eq_true, h3, Fin.eta]

/-- The key before a block's row is the key at the position before, unless the row is the sequence's first: the row that
    the point before left is the key of its last position. -/
theorem prev_key (c : Dev nD) (t : Fin cfg0.N) (R : Fin 4096) (h : ¬(posOf t R).val = 0) :
    prevKey (inX m c t) (inW m c t) (inB m c t) (left m c (pred t)) R
      = keyAt m c (seqOf t) ⟨(posOf t R).val - 1, by omega⟩ := by
  unfold prevKey
  have hp : (posOf t R).val = t.val % 2 * 4096 + R.val := rfl
  split_ifs with hR
  · have hs : seqOf (pred t) = seqOf t := Fin.ext (by show (t.val - 1) / 2 = t.val / 2; omega)
    have hq : posOf (pred t) 4095 = ⟨(posOf t R).val - 1, by omega⟩ := Fin.ext (by
      show (t.val - 1) % 2 * 4096 + 4095 = t.val % 2 * 4096 + R.val - 1
      omega)
    rw [← hs, ← hq, ← row_key]
    funext e
    exact carry_apply _ _ _ e
  · rw [row_key]
    congr 1
    apply Fin.ext
    show t.val % 2 * 4096 + (R.val - 1) = t.val % 2 * 4096 + R.val - 1
    omega

/-- A block's scores are its sequence's. -/
theorem block_value (c : Dev nD) (t : Fin cfg0.N) (R : Fin 4096) :
    blockScore (t.val % 2) (inX m c t) (inW m c t) (inB m c t) (inW2 m c t) (inB2 m c t) (left m c (pred t)) R
      = value m c (seqOf t) (posOf t R) := by
  unfold blockScore value seqScore
  have hp : (posOf t R).val = t.val % 2 * 4096 + R.val := rfl
  have hc : (t.val % 2 = 0 ∧ R.val = 0) ↔ (posOf t R).val = 0 := by omega
  simp only [hc, row_query, row_hidden, inW2_apply, inB2_apply]
  congr 1
  split_ifs with h
  · rfl
  · rw [prev_key m c t R h]
    rfl

/-! ## The result arrays -/

/-- The first result array: every position's score. -/
theorem array_5 (c : Dev nD) : (dats m 0 c).arrAt 5 cfg0.N = fun i : S4x8192x1.Idx => value m c (i (0 : Fin 3)) (i (1 : Fin 3)) := by
  refine (dats m 0 c).arrAt_eq_of_covers 5 _ (by decide +kernel) fun t hf y => ?_
  blk_simp
  rw [after_5]
  refine (block_value m c t (y (1 : Fin 3))).trans ?_
  have h0 : (win0_5.blk t).view.emb y (0 : Fin 3) = seqOf t := by
    apply Fin.ext; blk_simp [index_5, seqOf]
  have h1 : (win0_5.blk t).view.emb y (1 : Fin 3) = posOf t (y (1 : Fin 3)) := by
    apply Fin.ext; blk_simp [index_5, posOf]
  show _ = value m c ((win0_5.blk t).view.emb y (0 : Fin 3)) ((win0_5.blk t).view.emb y (1 : Fin 3))
  rw [h0, h1]

/-- The second: every position's mask. -/
theorem array_6 (c : Dev nD) :
    (dats m 0 c).arrAt 6 cfg0.N = fun i : S4x8192x1.Idx => mask (value m c (i (0 : Fin 3)) (i (1 : Fin 3))) := by
  refine (dats m 0 c).arrAt_eq_of_covers 6 _ (by decide +kernel) fun t hf y => ?_
  blk_simp
  rw [after_6]
  refine (congrArg mask (block_value m c t (y (1 : Fin 3)))).trans ?_
  have h0 : (win0_6.blk t).view.emb y (0 : Fin 3) = seqOf t := by
    apply Fin.ext; blk_simp [index_6, seqOf]
  have h1 : (win0_6.blk t).view.emb y (1 : Fin 3) = posOf t (y (1 : Fin 3)) := by
    apply Fin.ext; blk_simp [index_6, posOf]
  show _ = mask (value m c ((win0_6.blk t).view.emb y (0 : Fin 3)) ((win0_6.blk t).view.emb y (1 : Fin 3)))
  rw [h0, h1]

end Cert.KernelIdeal.Hand

end
-- ==== Proof.Ref.lean ====
/- The reference's results, element by element, over the extended reals: its operations named stage by stage, each stage
   read at an index. -/
module

public import proofs.«01_k».proof.Proof.Gen.ReferenceIdeal.Run
public import proofs.«01_k».proof.Proof.Spec

@[expose] public section

noncomputable section

namespace Cert.ReferenceIdeal.Hand

open Idealize.ShloMosaic Idealize.ShloMosaic.TcCoe Cert.ReferenceIdeal Cert.ReferenceIdeal.Gen Cert.ReferenceIdeal.Value
open Cert.Spec

/-- A linear layer on every position, 768 wide. -/
def wide (x : FVec Ideal S4x8192x768 .f32) (w : FVec Ideal S768x768 .f32) (b : FVec Ideal S768 .f32) :
    FVec Ideal S4x8192x768 .f32 :=
  addf (Host.dotGeneral dot_S4x8192x768_S768x768_S4x8192x768_2_0_01_1_n_n none x w)
    (broadcastInDim S4x8192x768 ![0, 1, 2] bcast_S1x1x768_S4x8192x768_0_1_2 (broadcastInDim S1x1x768 ![2] bcast_S768_S1x1x768_2 b))

/-- A linear layer on every position, 384 wide. -/
def narrow (x : FVec Ideal S4x8192x768 .f32) (w : FVec Ideal S768x384 .f32) (b : FVec Ideal S384 .f32) :
    FVec Ideal S4x8192x384 .f32 :=
  addf (Host.dotGeneral dot_S4x8192x768_S768x384_S4x8192x384_2_0_01_1_n_n none x w)
    (broadcastInDim S4x8192x384 ![0, 1, 2] bcast_S1x1x384_S4x8192x384_0_1_2 (broadcastInDim S1x1x384 ![2] bcast_S384_S1x1x384_2 b))

/-- The queries from the second position on, and the keys up to the last but one. -/
def later (y : FVec Ideal S4x8192x768 .f32) : FVec Ideal S4x8191x768 .f32 :=
  extractStridedSlice S4x8191x768 ![0, 1, 0] y slices_S4x8192x768_S4x8191x768_0_1_0
@[inherit_doc later] def earlier (y : FVec Ideal S4x8192x768 .f32) : FVec Ideal S4x8191x768 .f32 :=
  extractStridedSlice S4x8191x768 ![0, 0, 0] y slices_S4x8192x768_S4x8191x768_0_0_0

/-- The inner products, position by position. -/
def inner (p q : FVec Ideal S4x8191x768 .f32) : FVec Ideal S4x8191 .f32 :=
  Host.reduceAdd (mulf p q) (constant S_ .f32 0x00000000#32) reducesTo_S4x8191x768_S4x8191_d2 h_S_

/-- The norms, not below the least one. -/
def norms (p : FVec Ideal S4x8191x768 .f32) : FVec Ideal S4x8191 .f32 :=
  maximumf (Host.sqrt (inner p p)) (broadcastInDim S4x8191 ![] bcast_S_S4x8191 (constant S_ .f32 0x322BCC77#32))

/-- The distances. -/
def dists (p q : FVec Ideal S4x8191x768 .f32) : FVec Ideal S4x8191 .f32 :=
  mulf (broadcastInDim S4x8191 ![] bcast_S_S4x8191 (constant S_ .f32 0x3F000000#32))
    (subf (broadcastInDim S4x8191 ![] bcast_S_S4x8191 (constant S_ .f32 0x3F800000#32))
      (Host.divf (inner p q) (mulf (norms p) (norms q))))

/-- The distances with a one put before each sequence's. -/
def padded (d : FVec Ideal S4x8191 .f32) : FVec Ideal S4x8192 .f32 :=
  concatenate S4x8192 1 [⟨S4x1, (broadcastInDim S4x1 ![] bcast_S_S4x1 (constant S_ .f32 0x3F800000#32))⟩, ⟨S4x8191, d⟩]
    concatenates_S4x1_S4x8191_S4x8192_d1

/-- The hidden layers clipped, against the weights, plus the bias. -/
def logits (h : FVec Ideal S4x8192x384 .f32) (w2 : FVec Ideal S384x1 .f32) (b2 : FVec Ideal S1 .f32) : FVec Ideal S4x8192x1 .f32 :=
  addf (Host.dotGeneral dot_S4x8192x384_S384x1_S4x8192x1_2_0_01_1_n_n none
      (maximumf h (broadcastInDim S4x8192x384 ![] bcast_S_S4x8192x384 (constant S_ .f32 0x00000000#32))) w2)
    (broadcastInDim S4x8192x1 ![0, 1, 2] bcast_S1x1x1_S4x8192x1_0_1_2 (broadcastInDim S1x1x1 ![2] bcast_S1_S1x1x1_2 b2))

/-- The retentions. -/
def retentions (z : FVec Ideal S4x8192x1 .f32) : FVec Ideal S4x8192 .f32 :=
  shapeCast S4x8192 (Host.divf (broadcastInDim S4x8192x1 ![] bcast_S_S4x8192x1 (constant S_ .f32 0x3F800000#32))
    (addf (broadcastInDim S4x8192x1 ![] bcast_S_S4x8192x1 (constant S_ .f32 0x3F800000#32)) (Host.exp (Host.negf z))))
    shapeCasts_S4x8192x1_S4x8192

/-- The weighted sums. -/
def totals (d r : FVec Ideal S4x8192 .f32) : FVec Ideal S4x8192 .f32 :=
  addf (mulf (broadcastInDim S4x8192 ![] bcast_S_S4x8192 (constant S_ .f32 0x3F333333#32)) d)
    (mulf (broadcastInDim S4x8192 ![] bcast_S_S4x8192 (constant S_ .f32 0x3E99999A#32)) r)

/-- The sums against one half. -/
def exceeds (t : FVec Ideal S4x8192 .f32) : IVec S4x8192 32 :=
  extui 32 (cmpf .ogt t (broadcastInDim S4x8192 ![] bcast_S_S4x8192 (constant S_ .f32 0x3F000000#32))) natLt_1_32

section Apply

variable (x : FVec Ideal S4x8192x768 .f32) (q : Fin 4)

/-- An entry of a 768-wide projection. -/
theorem wide_apply (w : FVec Ideal S768x768 .f32) (b : FVec Ideal S768 .f32) (s : Fin 8192) (e : Fin 768) :
    wide x w b (ix3 q s e) = linear (fun k => x (ix3 q s k)) (fun k e => w (ix2 k e)) (fun e => b (ix1 e)) e := by
  pointwise [wide, linear]

/-- An entry of the 384-wide projection. -/
theorem narrow_apply (w : FVec Ideal S768x384 .f32) (b : FVec Ideal S384 .f32) (s : Fin 8192) (e : Fin 384) :
    narrow x w b (ix3 q s e) = linear (fun k => x (ix3 q s k)) (fun k e => w (ix2 k e)) (fun e => b (ix1 e)) e := by
  pointwise [narrow, linear]

/-- The positions from the second on. -/
theorem later_apply (s : Fin 8191) (e : Fin 768) : later x (ix3 q s e) = x (ix3 q ⟨1 + s.val, by omega⟩ e) := by
  pointwise [later]

/-- The positions up to the last but one. -/
theorem earlier_apply (s : Fin 8191) (e : Fin 768) : earlier x (ix3 q s e) = x (ix3 q ⟨s.val, by omega⟩ e) := by
  pointwise [earlier]

/-- The inner product of two rows. -/
theorem inner_apply (a b : FVec Ideal S4x8191x768 .f32) (s : Fin 8191) :
    inner a b (ix2 q s) = ∑ e, a (ix3 q s e) * b (ix3 q s e) := by
  pointwise [inner]

/-- The clamped norm of a row. -/
theorem norms_apply (a : FVec Ideal S4x8191x768 .f32) (s : Fin 8191) :
    norms a (ix2 q s) = norm fun e => a (ix3 q s e) := by
  pointwise [norms]
  rw [inner_apply]
  rfl

/-- The distance of two rows. -/
theorem dists_apply (a b : FVec Ideal S4x8191x768 .f32) (s : Fin 8191) :
    dists a b (ix2 q s) = distance (fun e => a (ix3 q s e)) (fun e => b (ix3 q s e)) := by
  pointwise [dists]
  rw [inner_apply, norms_apply, norms_apply]
  rfl

/-- The distances with a one put before them. -/
theorem padded_apply (d : FVec Ideal S4x8191 .f32) (s : Fin 8192) :
    padded d (ix2 q s) = if h : s.val = 0 then 1 else d (ix2 q ⟨s.val - 1, by omega⟩) := by
  pointwise [padded]
  simp only [Nat.lt_one_iff]

/-- The second layer at one position. -/
theorem logits_apply (h : FVec Ideal S4x8192x384 .f32) (w2 : FVec Ideal S384x1 .f32) (b2 : FVec Ideal S1 .f32) (s : Fin 8192) :
    logits h w2 b2 (ix3 q s 0) = ∑ e, max (h (ix3 q s e)) 0 * w2 (ix2 e 0) + b2 (ix1 0) := by
  pointwise [logits]

/-- The sigmoid at one position. -/
theorem retentions_apply (z : FVec Ideal S4x8192x1 .f32) (s : Fin 8192) :
    retentions z (ix2 q s) = Ideal.logistic (z (ix3 q s 0)) := by
  pointwise [retentions, Ideal.logistic]

/-- The weighted sum at one position. -/
theorem totals_apply (d r : FVec Ideal S4x8192 .f32) (s : Fin 8192) :
    totals d r (ix2 q s) = total (d (ix2 q s)) (r (ix2 q s)) := by
  pointwise [totals, total]

/-- The comparison with one half at one position. -/
theorem exceeds_apply (t : FVec Ideal S4x8192 .f32) (s : Fin 8192) : exceeds t (ix2 q s) = mask (t (ix2 q s)) := by
  pointwise [exceeds, mask, half]

end Apply

variable (m : (ℓ : Loc nD τ sig) → Buf (Elt Ideal) ℓ)

/-- The score of the arguments at position `s` of sequence `q`. -/
def value (c : Dev nD) (q : Fin 4) (s : Fin 8192) : EReal :=
  seqScore (fun s k => m ((c.tc : Thread nD τ).loc main_arg0) (ix3 q s k))
    (fun k e => m ((c.tc : Thread nD τ).loc main_arg1) (ix2 k e)) (fun e => m ((c.tc : Thread nD τ).loc main_arg2) (ix1 e))
    (fun k e => m ((c.tc : Thread nD τ).loc main_arg3) (ix2 k e)) (fun e => m ((c.tc : Thread nD τ).loc main_arg4) (ix1 e))
    (fun k e => m ((c.tc : Thread nD τ).loc main_arg5) (ix2 k e)) (fun e => m ((c.tc : Thread nD τ).loc main_arg6) (ix1 e))
    (fun e => m ((c.tc : Thread nD τ).loc main_arg7) (ix2 e 0)) (m ((c.tc : Thread nD τ).loc main_arg8) (ix1 0)) s

/-- The reference's sums as its stages compose them. -/
def sums (c : Dev nD) : FVec Ideal S4x8192 .f32 :=
  totals (padded (dists
      (later (wide (m ((c.tc : Thread nD τ).loc main_arg0)) (m ((c.tc : Thread nD τ).loc main_arg1)) (m ((c.tc : Thread nD τ).loc main_arg2))))
      (earlier (wide (m ((c.tc : Thread nD τ).loc main_arg0)) (m ((c.tc : Thread nD τ).loc main_arg3)) (m ((c.tc : Thread nD τ).loc main_arg4))))))
    (retentions (logits
      (narrow (m ((c.tc : Thread nD τ).loc main_arg0)) (m ((c.tc : Thread nD τ).loc main_arg5)) (m ((c.tc : Thread nD τ).loc main_arg6)))
      (m ((c.tc : Thread nD τ).loc main_arg7)) (m ((c.tc : Thread nD τ).loc main_arg8))))

/-- The reference's scores are those of `value`. -/
theorem sums_apply (c : Dev nD) (q : Fin 4) (s : Fin 8192) : sums m c (ix2 q s) = value m c q s := by
  unfold sums value seqScore retention
  rw [totals_apply, padded_apply, retentions_apply, logits_apply]
  simp only [dists_apply, later_apply, earlier_apply, wide_apply, narrow_apply]
  congr 1
  split_ifs with h
  · rfl
  · have hs : (⟨1 + (s.val - 1), by omega⟩ : Fin 8192) = s := Fin.ext (by show 1 + (s.val - 1) = s.val; omega)
    simp only [hs]

/-- The first result at an index. -/
theorem out0_apply (c : Dev nD) (q : Fin 4) (s : Fin 8192) : res_main_v54 m c (ix3 q s 0) = value m c q s := by
  have h : res_main_v54 m c = broadcastInDim S4x8192x1 ![0, 1] bcast_S4x8192_S4x8192x1_0_1 (sums m c) := by
    unfold res_main_v54; rfl
  rw [h, ← sums_apply]
  pointwise

/-- The second result at an index. -/
theorem out1_apply (c : Dev nD) (q : Fin 4) (s : Fin 8192) : res_main_v55 m c (ix3 q s 0) = mask (value m c q s) := by
  have h : res_main_v55 m c = broadcastInDim S4x8192x1 ![0, 1] bcast_S4x8192_S4x8192x1_0_1 (exceeds (sums m c)) := by
    unfold res_main_v55; rfl
  rw [h, ← sums_apply, ← exceeds_apply]
  pointwise

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Arrays
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The idealized kernel runs, its arguments end unchanged, and every semaphore counter ends at zero. -/
theorem frame_kernelIdeal : Cert.quiescent_KernelIdeal := fun m g _ =>
  θ_run_and (Cert.KernelIdeal.Gen.frame_of m g (Cert.KernelIdeal.Hand.dats m) (Cert.KernelIdeal.Hand.A_eq m)
      (θ_run_mono (Cert.KernelIdeal.Hand.run m g) fun _ h => h.1))
    (θ_run_mono (Cert.KernelIdeal.Hand.run m g) fun _ h => h.2)

/-- The reference runs, its arguments end unchanged, and every semaphore counter ends at zero. -/
theorem frame_referenceIdeal : Cert.quiescent_ReferenceIdeal := fun m g _ =>
  θ_run_mono (Cert.ReferenceIdeal.Value.run m g) fun r h => ⟨fun c => (h c).2.2, sem_eq_zero_of_no_sems (by decide) r.2⟩

/-- On equal arguments the two programs' scores are equal. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (q : Fin 4) (s : Fin 8192) : Cert.ReferenceIdeal.Hand.value m' c q s = Cert.KernelIdeal.Hand.value m c q s := by
  obtain ⟨h0, h1, h2, h3, h4, h5, h6, h7, h8⟩ := h
  unfold Cert.ReferenceIdeal.Hand.value Cert.KernelIdeal.Hand.value Cert.KernelIdeal.Hand.tokens
  rw [h0, h1, h2, h3, h4, h5, h6, h7, h8]

/-- Over the extended reals, from equal arguments, the kernel and the reference end with equal results: every score, and
    every comparison of a score with one half. -/
theorem results_eq : Cert.algebraic_KernelIdeal_ReferenceIdeal := by
  intro m g m' g' _ hagree
  refine ⟨fun c i => Cert.KernelIdeal.Hand.value m c (i (0 : Fin 3)) (i (1 : Fin 3)),
    fun c i => Cert.Spec.mask (Cert.KernelIdeal.Hand.value m c (i (0 : Fin 3)) (i (1 : Fin 3))), ?_, ?_⟩
  · refine θ_run_mono (θ_run_and (frame_kernelIdeal m g trivial) (Cert.KernelIdeal.Hand.run m g)) fun r hr c => ?_
    exact ⟨((hr.2.1 c).1 5).trans (Cert.KernelIdeal.Hand.array_5 m c),
      ((hr.2.1 c).1 6).trans (Cert.KernelIdeal.Hand.array_6 m c), hr.1.1 c⟩
  · refine θ_run_mono (Cert.ReferenceIdeal.Value.run m' g') fun r hr c => ?_
    refine ⟨(hr c).1.trans ?_, (hr c).2.1.trans ?_, (hr c).2.2⟩
    · funext i
      obtain ⟨q, s, u, rfl⟩ : ∃ (q : Fin 4) (s : Fin 8192) (u : Fin 1), i = ix3 q s u := ⟨i 0, i 1, i 2, eq_ix3 i⟩
      obtain rfl : u = 0 := Subsingleton.elim _ _
      exact (Cert.ReferenceIdeal.Hand.out0_apply m' c q s).trans (value_eq m m' c (hagree c) q s)
    · funext i
      obtain ⟨q, s, u, rfl⟩ : ∃ (q : Fin 4) (s : Fin 8192) (u : Fin 1), i = ix3 q s u := ⟨i 0, i 1, i 2, eq_ix3 i⟩
      obtain rfl : u = 0 := Subsingleton.elim _ _
      exact (Cert.ReferenceIdeal.Hand.out1_apply m' c q s).trans
        (congrArg Cert.Spec.mask (value_eq m m' c (hagree c) q s))

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, results_eq⟩

end Cert.Proof

end
